-- ==== Defs.lean ====
def Pre_Kernel (m : (ℓ : Loc Cert.Kernel.nD Cert.Kernel.τ Cert.Kernel.sig) → Buf (Elt Bits) ℓ) : Prop :=
  True

def Pre_Rounded (m : (ℓ : Loc Cert.Rounded.nD Cert.Rounded.τ Cert.Rounded.sig) → Buf (Elt Bits) ℓ) : Prop :=
  True

def Pre_RoundedIdeal (m : (ℓ : Loc Cert.RoundedIdeal.nD Cert.RoundedIdeal.τ Cert.RoundedIdeal.sig) → Buf (Elt Ideal) ℓ) : Prop :=
  True

def Pre_RoundedIdeal_greatest_finite [hPre_greatest_finite : Cert.Pre_greatest_finite.Facts] (m : (ℓ : Loc Cert.RoundedIdeal.nD Cert.RoundedIdeal.τ Cert.RoundedIdeal.sig) → Buf (Elt Ideal) ℓ) : Prop :=
  ∀ c : Dev Cert.RoundedIdeal.nD,
    (Cert.Pre_greatest_finite.fn (F := Ideal) (m ((c.tc : Thread Cert.RoundedIdeal.nD Cert.RoundedIdeal.τ).loc Cert.RoundedIdeal.main_arg0)) (m ((c.tc : Thread Cert.RoundedIdeal.nD Cert.RoundedIdeal.τ).loc Cert.RoundedIdeal.main_arg1)) (m ((c.tc : Thread Cert.RoundedIdeal.nD Cert.RoundedIdeal.τ).loc Cert.RoundedIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_greatest_finite [hPre_greatest_finite : Cert.Pre_greatest_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_greatest_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Rounded [hRounded : Cert.Rounded.Facts] : Prop :=
  ∀ (m : (ℓ : Loc Cert.Rounded.nD Cert.Rounded.τ Cert.Rounded.sig) → Buf (Elt Bits) ℓ) (g : Dev Cert.Rounded.nD → PrngReg), Pre_Rounded m →
    θ_run (Cert.Rounded.defs (F := Bits)) (onTc (τ := Cert.Rounded.τ) (Cert.Rounded.main (F := Bits))) ⟨m, fun _ => 0, g⟩ (fun r => (∀ c : Dev Cert.Rounded.nD,
      r.2.mem ((c.tc : Thread Cert.Rounded.nD Cert.Rounded.τ).loc Cert.Rounded.main_arg0) = m ((c.tc : Thread Cert.Rounded.nD Cert.Rounded.τ).loc Cert.Rounded.main_arg0)
      ∧ r.2.mem ((c.tc : Thread Cert.Rounded.nD Cert.Rounded.τ).loc Cert.Rounded.main_arg1) = m ((c.tc : Thread Cert.Rounded.nD Cert.Rounded.τ).loc Cert.Rounded.main_arg1)
      ∧ r.2.mem ((c.tc : Thread Cert.Rounded.nD Cert.Rounded.τ).loc Cert.Rounded.main_arg2) = m ((c.tc : Thread Cert.Rounded.nD Cert.Rounded.τ).loc Cert.Rounded.main_arg2))
      ∧ r.2.sem = fun _ => 0)

def quiescent_RoundedIdeal [hRoundedIdeal : Cert.RoundedIdeal.Facts] : Prop :=
  ∀ (m : (ℓ : Loc Cert.RoundedIdeal.nD Cert.RoundedIdeal.τ Cert.RoundedIdeal.sig) → Buf (Elt Ideal) ℓ) (g : Dev Cert.RoundedIdeal.nD → PrngReg), Pre_RoundedIdeal m →
    θ_run (Cert.RoundedIdeal.defs (F := Ideal)) (onTc (τ := Cert.RoundedIdeal.τ) (Cert.RoundedIdeal.main (F := Ideal))) ⟨m, fun _ => 0, g⟩ (fun r => (∀ c : Dev Cert.RoundedIdeal.nD,
      r.2.mem ((c.tc : Thread Cert.RoundedIdeal.nD Cert.RoundedIdeal.τ).loc Cert.RoundedIdeal.main_arg0) = m ((c.tc : Thread Cert.RoundedIdeal.nD Cert.RoundedIdeal.τ).loc Cert.RoundedIdeal.main_arg0)
      ∧ r.2.mem ((c.tc : Thread Cert.RoundedIdeal.nD Cert.RoundedIdeal.τ).loc Cert.RoundedIdeal.main_arg1) = m ((c.tc : Thread Cert.RoundedIdeal.nD Cert.RoundedIdeal.τ).loc Cert.RoundedIdeal.main_arg1)
      ∧ r.2.mem ((c.tc : Thread Cert.RoundedIdeal.nD Cert.RoundedIdeal.τ).loc Cert.RoundedIdeal.main_arg2) = m ((c.tc : Thread Cert.RoundedIdeal.nD Cert.RoundedIdeal.τ).loc Cert.RoundedIdeal.main_arg2))
      ∧ r.2.sem = fun _ => 0)

def quiescent_RoundedIdeal_pre_greatest_finite [hRoundedIdeal : Cert.RoundedIdeal.Facts] [hPre_greatest_finite : Cert.Pre_greatest_finite.Facts] : Prop :=
  ∀ (m : (ℓ : Loc Cert.RoundedIdeal.nD Cert.RoundedIdeal.τ Cert.RoundedIdeal.sig) → Buf (Elt Ideal) ℓ) (g : Dev Cert.RoundedIdeal.nD → PrngReg), Pre_RoundedIdeal_greatest_finite m →
    θ_run (Cert.RoundedIdeal.defs (F := Ideal)) (onTc (τ := Cert.RoundedIdeal.τ) (Cert.RoundedIdeal.main (F := Ideal))) ⟨m, fun _ => 0, g⟩ (fun r => (∀ c : Dev Cert.RoundedIdeal.nD,
      r.2.mem ((c.tc : Thread Cert.RoundedIdeal.nD Cert.RoundedIdeal.τ).loc Cert.RoundedIdeal.main_arg0) = m ((c.tc : Thread Cert.RoundedIdeal.nD Cert.RoundedIdeal.τ).loc Cert.RoundedIdeal.main_arg0)
      ∧ r.2.mem ((c.tc : Thread Cert.RoundedIdeal.nD Cert.RoundedIdeal.τ).loc Cert.RoundedIdeal.main_arg1) = m ((c.tc : Thread Cert.RoundedIdeal.nD Cert.RoundedIdeal.τ).loc Cert.RoundedIdeal.main_arg1)
      ∧ r.2.mem ((c.tc : Thread Cert.RoundedIdeal.nD Cert.RoundedIdeal.τ).loc Cert.RoundedIdeal.main_arg2) = m ((c.tc : Thread Cert.RoundedIdeal.nD Cert.RoundedIdeal.τ).loc Cert.RoundedIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_greatest_finite [hReferenceIdeal : Cert.ReferenceIdeal.Facts] [hPre_greatest_finite : Cert.Pre_greatest_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_greatest_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def bitexact_Kernel_Rounded [hKernel : Cert.Kernel.Facts] [hRounded : Cert.Rounded.Facts] : Prop :=
  ∀ (m : (ℓ : Loc Cert.Kernel.nD Cert.Kernel.τ Cert.Kernel.sig) → Buf (Elt Bits) ℓ) (g : Dev Cert.Kernel.nD → PrngReg)
    (m' : (ℓ : Loc Cert.Rounded.nD Cert.Rounded.τ Cert.Rounded.sig) → Buf (Elt Bits) ℓ) (g' : Dev Cert.Rounded.nD → PrngReg), Pre_Kernel m →
    (∀ c : Dev Cert.Kernel.nD,
      m' ((c.tc : Thread Cert.Rounded.nD Cert.Rounded.τ).loc Cert.Rounded.main_arg0) = m ((c.tc : Thread Cert.Kernel.nD Cert.Kernel.τ).loc Cert.Kernel.main_arg0)
      ∧ m' ((c.tc : Thread Cert.Rounded.nD Cert.Rounded.τ).loc Cert.Rounded.main_arg1) = m ((c.tc : Thread Cert.Kernel.nD Cert.Kernel.τ).loc Cert.Kernel.main_arg1)
      ∧ m' ((c.tc : Thread Cert.Rounded.nD Cert.Rounded.τ).loc Cert.Rounded.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Rounded.defs (F := Bits)) (onTc (τ := Cert.Rounded.τ) (Cert.Rounded.main (F := Bits))) ⟨m', fun _ => 0, g'⟩ (fun r => ∀ c : Dev Cert.Rounded.nD,
          r.2.mem ((c.tc : Thread Cert.Rounded.nD Cert.Rounded.τ).loc Cert.Rounded.main_v26) = v0 c
          ∧ r.2.mem ((c.tc : Thread Cert.Rounded.nD Cert.Rounded.τ).loc Cert.Rounded.main_arg0) = m' ((c.tc : Thread Cert.Rounded.nD Cert.Rounded.τ).loc Cert.Rounded.main_arg0)
          ∧ r.2.mem ((c.tc : Thread Cert.Rounded.nD Cert.Rounded.τ).loc Cert.Rounded.main_arg1) = m' ((c.tc : Thread Cert.Rounded.nD Cert.Rounded.τ).loc Cert.Rounded.main_arg1)
          ∧ r.2.mem ((c.tc : Thread Cert.Rounded.nD Cert.Rounded.τ).loc Cert.Rounded.main_arg2) = m' ((c.tc : Thread Cert.Rounded.nD Cert.Rounded.τ).loc Cert.Rounded.main_arg2))

def preserves_Rounded_RoundedIdeal : Prop :=
  True

def algebraic_RoundedIdeal_ReferenceIdeal_pre_greatest_finite [hRoundedIdeal : Cert.RoundedIdeal.Facts] [hReferenceIdeal : Cert.ReferenceIdeal.Facts] [hPre_greatest_finite : Cert.Pre_greatest_finite.Facts] : Prop :=
  ∀ (m : (ℓ : Loc Cert.RoundedIdeal.nD Cert.RoundedIdeal.τ Cert.RoundedIdeal.sig) → Buf (Elt Ideal) ℓ) (g : Dev Cert.RoundedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_RoundedIdeal_greatest_finite m →
    (∀ c : Dev Cert.RoundedIdeal.nD,
      m' ((c.tc : Thread Cert.ReferenceIdeal.nD Cert.ReferenceIdeal.τ).loc Cert.ReferenceIdeal.main_arg0) = m ((c.tc : Thread Cert.RoundedIdeal.nD Cert.RoundedIdeal.τ).loc Cert.RoundedIdeal.main_arg0)
      ∧ m' ((c.tc : Thread Cert.ReferenceIdeal.nD Cert.ReferenceIdeal.τ).loc Cert.ReferenceIdeal.main_arg1) = m ((c.tc : Thread Cert.RoundedIdeal.nD Cert.RoundedIdeal.τ).loc Cert.RoundedIdeal.main_arg1)
      ∧ m' ((c.tc : Thread Cert.ReferenceIdeal.nD Cert.ReferenceIdeal.τ).loc Cert.ReferenceIdeal.main_arg2) = m ((c.tc : Thread Cert.RoundedIdeal.nD Cert.RoundedIdeal.τ).loc Cert.RoundedIdeal.main_arg2)) →
    ∃ (v0 : (c : Dev Cert.RoundedIdeal.nD) → Buf (Elt Ideal) ((c.tc : Thread Cert.RoundedIdeal.nD Cert.RoundedIdeal.τ).loc Cert.RoundedIdeal.main_v26)),
      θ_run (Cert.RoundedIdeal.defs (F := Ideal)) (onTc (τ := Cert.RoundedIdeal.τ) (Cert.RoundedIdeal.main (F := Ideal))) ⟨m, fun _ => 0, g⟩ (fun r => ∀ c : Dev Cert.RoundedIdeal.nD,
          r.2.mem ((c.tc : Thread Cert.RoundedIdeal.nD Cert.RoundedIdeal.τ).loc Cert.RoundedIdeal.main_v26) = v0 c
          ∧ r.2.mem ((c.tc : Thread Cert.RoundedIdeal.nD Cert.RoundedIdeal.τ).loc Cert.RoundedIdeal.main_arg0) = m ((c.tc : Thread Cert.RoundedIdeal.nD Cert.RoundedIdeal.τ).loc Cert.RoundedIdeal.main_arg0)
          ∧ r.2.mem ((c.tc : Thread Cert.RoundedIdeal.nD Cert.RoundedIdeal.τ).loc Cert.RoundedIdeal.main_arg1) = m ((c.tc : Thread Cert.RoundedIdeal.nD Cert.RoundedIdeal.τ).loc Cert.RoundedIdeal.main_arg1)
          ∧ r.2.mem ((c.tc : Thread Cert.RoundedIdeal.nD Cert.RoundedIdeal.τ).loc Cert.RoundedIdeal.main_arg2) = m ((c.tc : Thread Cert.RoundedIdeal.nD Cert.RoundedIdeal.τ).loc Cert.RoundedIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hRounded : Cert.Rounded.Facts) (hRoundedIdeal : Cert.RoundedIdeal.Facts) (hReferenceIdeal : Cert.ReferenceIdeal.Facts) (hPre_greatest_finite : Cert.Pre_greatest_finite.Facts),
    quiescent_Kernel (hKernel := hKernel)
    ∧ quiescent_Rounded (hRounded := hRounded)
    ∧ quiescent_RoundedIdeal (hRoundedIdeal := hRoundedIdeal)
    ∧ quiescent_RoundedIdeal_pre_greatest_finite (hRoundedIdeal := hRoundedIdeal) (hPre_greatest_finite := hPre_greatest_finite)
    ∧ quiescent_ReferenceIdeal (hReferenceIdeal := hReferenceIdeal)
    ∧ quiescent_ReferenceIdeal_pre_greatest_finite (hReferenceIdeal := hReferenceIdeal) (hPre_greatest_finite := hPre_greatest_finite)
    ∧ bitexact_Kernel_Rounded (hKernel := hKernel) (hRounded := hRounded)
    ∧ preserves_Rounded_RoundedIdeal
    ∧ algebraic_RoundedIdeal_ReferenceIdeal_pre_greatest_finite (hRoundedIdeal := hRoundedIdeal) (hReferenceIdeal := hReferenceIdeal) (hPre_greatest_finite := hPre_greatest_finite)
-- ==== Pre_greatest_finite.lean ====
abbrev S64x32768 : Shape := ⟨2, ![64, 32768]⟩
abbrev S32768 : Shape := ⟨1, ![32768]⟩
abbrev S_ : Shape := ⟨0, ![]⟩

class Facts : Prop where
  reducesTo_S32768_S_d0 : S32768.ReducesTo [0] S_
  h_S_ : 0 < S_.numel

variable [Facts]

def fn {F : FTy → Type} [FloatOps F] (main_arg0 : FVec F S64x32768 .f32) (main_arg1 : FVec F S32768 .f32) (main_arg2 : FVec F S32768 .f32) : IVec S_ 1 :=
  let main_cst : FVec F S_ .f32 := constant S_ .f32 0xFF800000#32
  let main_v0 : FVec F S_ .f32 := (fun x v => Host.reduce FloatOps.maximumf x v reducesTo_S32768_S_d0 h_S_) main_arg1 main_cst
  let main_cst_0 : FVec F S_ .f32 := constant S_ .f32 0xFF800000#32
  let main_v1 : IVec S_ 1 := cmpf .ogt main_v0 main_cst_0
  let main_cst_1 : FVec F S_ .f32 := constant S_ .f32 0x7F800000#32
  let main_v2 : IVec S_ 1 := cmpf .olt main_v0 main_cst_1
  let main_v3 : IVec S_ 1 := andi main_v1 main_v2
  main_v3
-- ==== Kernel.lean ====
abbrev S64x32768 : Shape := ⟨2, ![64, 32768]⟩
abbrev S32768 : Shape := ⟨1, ![32768]⟩
abbrev S8x4096 : Shape := ⟨2, ![8, 4096]⟩
abbrev S1x32768 : Shape := ⟨2, ![1, 32768]⟩
abbrev S1x4096 : Shape := ⟨2, ![1, 4096]⟩
abbrev S64x4096 : Shape := ⟨2, ![64, 4096]⟩
abbrev S_ : Shape := ⟨0, ![]⟩
abbrev S1x8x4096 : Shape := ⟨3, ![1, 8, 4096]⟩
abbrev S1 : Shape := ⟨1, ![1]⟩
abbrev S1x1x1 : Shape := ⟨3, ![1, 1, 1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S64x32768, .f32⟩
  | .hbm, ⟨1, _⟩ => ⟨S32768, .f32⟩
  | .hbm, ⟨2, _⟩ => ⟨S32768, .f32⟩
  | .hbm, ⟨3, _⟩ => ⟨S8x4096, .f32⟩
  | .hbm, ⟨4, _⟩ => ⟨S1x32768, .f32⟩
  | .hbm, ⟨5, _⟩ => ⟨S64x32768, .f32⟩
  | .local _ .vmem, ⟨0, _⟩ => ⟨S8x4096, .f32⟩
  | .local _ .vmem, ⟨1, _⟩ => ⟨S1x4096, .f32⟩
  | .local _ .vmem, ⟨2, _⟩ => ⟨S1x4096, .f32⟩
  | .local _ .vmem, ⟨3, _⟩ => ⟨S64x4096, .f32⟩
  | .local _ .vmem, ⟨4, _⟩ => ⟨S64x4096, .f32⟩
  | .local _ .vmem, ⟨5, _⟩ => ⟨S8x4096, .f32⟩
  | .local _ .vmem, ⟨6, _⟩ => ⟨S64x32768, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

@[reducible] def k0_t1_loop : Scf.Loop 32 :=
  let c0_i32_13 : BitVec 32 := 0#32
  let c64_i32 : BitVec 32 := 64#32
  let v33 : BitVec 32 := Scalar.addi c0_i32_13 c64_i32
  let c1_i32 : BitVec 32 := 1#32
  ⟨c0_i32_13, v33, c1_i32⟩
@[reducible] def k0_t2_loop : Scf.Loop 32 :=
  let c0_i32_15 : BitVec 32 := 0#32
  let c15_i32 : BitVec 32 := 15#32
  let v37 : BitVec 32 := Scalar.addi c0_i32_15 c15_i32
  let c1_i32_16 : BitVec 32 := 1#32
  ⟨c0_i32_15, v37, c1_i32_16⟩
def k0_off1 (i : grid0.Coords) : Fin 2 → Nat :=
  let c0 : Index := 0#32
  let arg0 : BitVec 32 := BitVec.ofNat 32 (i 0).val
  let c4096_i32 : BitVec 32 := 4096#32
  let v9 : BitVec 32 := Scalar.muli arg0 c4096_i32
  let v10 : Index := Scalar.indexCast v9
  ![0, v10.toNat]
def k0_off2 (i : grid0.Coords) : Fin 2 → Nat :=
  let arg0 : BitVec 32 := BitVec.ofNat 32 (i 0).val
  let v14 : Index := Scalar.indexCast arg0
  let c0_7 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Rounded.lean ====
abbrev S64x32768 : Shape := ⟨2, ![64, 32768]⟩
abbrev S32768 : Shape := ⟨1, ![32768]⟩
abbrev S8x4096 : Shape := ⟨2, ![8, 4096]⟩
abbrev S1x8x4096 : Shape := ⟨3, ![1, 8, 4096]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S64 : Shape := ⟨1, ![64]⟩
abbrev S32832 : Shape := ⟨1, ![32832]⟩
abbrev S64x1 : Shape := ⟨2, ![64, 1]⟩
abbrev S1x32768 : Shape := ⟨2, ![1, 32768]⟩

abbrev nBuf : Space → Nat
  | .hbm => 42
  | .vmem => 2
  | .smem => 0
  | _ => 0

abbrev bufTy : (tb : Table) → Fin (tcTables nBuf tb) → BufTy
  | .hbm, ⟨0, _⟩ => ⟨S64x32768, .f32⟩
  | .hbm, ⟨1, _⟩ => ⟨S32768, .f32⟩
  | .hbm, ⟨2, _⟩ => ⟨S32768, .f32⟩
  | .hbm, ⟨3, _⟩ => ⟨S8x4096, .f32⟩
  | .hbm, ⟨4, _⟩ => ⟨S8x4096, .f32⟩
  | .hbm, ⟨5, _⟩ => ⟨S32768, .f32⟩
  | .hbm, ⟨6, _⟩ => ⟨S_, .f32⟩
  | .hbm, ⟨7, _⟩ => ⟨S64, .f32⟩
  | .hbm, ⟨8, _⟩ => ⟨S32832, .f32⟩
  | .hbm, ⟨9, _⟩ => ⟨S64, .f32⟩
  | .hbm, ⟨10, _⟩ => ⟨S64, .i32⟩
  | .hbm, ⟨11, _⟩ => ⟨S_, .f32⟩
  | .hbm, ⟨12, _⟩ => ⟨S32768, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S_, .f32⟩
  | .hbm, ⟨22, _⟩ => ⟨S64, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .i1⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768, .f32⟩
  | .hbm, ⟨31, _⟩ => ⟨S_, .f32⟩
  | .hbm, ⟨32, _⟩ => ⟨S_, .f32⟩
  | .hbm, ⟨33, _⟩ => ⟨S32768, .f32⟩
  | .hbm, ⟨34, _⟩ => ⟨S32768, .f32⟩
  | .hbm, ⟨35, _⟩ => ⟨S1x32768, .f32⟩
  | .hbm, ⟨36, _⟩ => ⟨S64x32768, .f32⟩
  | .hbm, ⟨37, _⟩ => ⟨S64x32768, .f32⟩
  | .hbm, ⟨38, _⟩ => ⟨S1x32768, .f32⟩
  | .hbm, ⟨39, _⟩ => ⟨S64x32768, .f32⟩
  | .hbm, ⟨40, _⟩ => ⟨S64x32768, .f32⟩
  | .hbm, ⟨41, _⟩ => ⟨S64x32768, .f32⟩
  | .local _ .vmem, ⟨0, _⟩ => ⟨S8x4096, .f32⟩
  | .local _ .vmem, ⟨1, _⟩ => ⟨S8x4096, .f32⟩
  | _, _ => ⟨S64x32768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_cst_0 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v11 : BitVec 32 := Scalar.addi c0_i32 c64_i32
  let c1_i32 : BitVec 32 := 1#32
  ⟨c0_i32, v11, c1_i32⟩
abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x32768 : Shape := ⟨2, ![64, 32768]⟩
abbrev S32768 : Shape := ⟨1, ![32768]⟩
abbrev S_ : Shape := ⟨0, ![]⟩
abbrev S1 : Shape := ⟨1, ![1]⟩
abbrev S64 : Shape := ⟨1, ![64]⟩
abbrev S64x1 : Shape := ⟨2, ![64, 1]⟩
abbrev S1x32768 : Shape := ⟨2, ![1, 32768]⟩

abbrev nBuf : Space → Nat
  | .hbm => 83
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S32768, .f32⟩
  | .hbm, ⟨2, _⟩ => ⟨S32768, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S32768, .f32⟩
  | .hbm, ⟨9, _⟩ => ⟨S32768, .f32⟩
  | .hbm, ⟨10, _⟩ => ⟨S32768, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S32768, .f32⟩
  | .hbm, ⟨16, _⟩ => ⟨S32768, .f32⟩
  | .hbm, ⟨17, _⟩ => ⟨S_, .f32⟩
  | .hbm, ⟨18, _⟩ => ⟨S32768, .f32⟩
  | .hbm, ⟨19, _⟩ => ⟨S_, .f32⟩
  | .hbm, ⟨20, _⟩ => ⟨S32768, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S32768, .f32⟩
  | .hbm, ⟨26, _⟩ => ⟨S32768, .f32⟩
  | .hbm, ⟨27, _⟩ => ⟨S32768, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S32768, .f32⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S32768, .f32⟩
  | .hbm, ⟨39, _⟩ => ⟨S32768, .f32⟩
  | .hbm, ⟨40, _⟩ => ⟨S_, .f32⟩
  | .hbm, ⟨41, _⟩ => ⟨S32768, .f32⟩
  | .hbm, ⟨42, _⟩ => ⟨S32768, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S32768, .f32⟩
  | .hbm, ⟨49, _⟩ => ⟨S32768, .f32⟩
  | .hbm, ⟨50, _⟩ => ⟨S32768, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S32768, .f32⟩
  | .hbm, ⟨55, _⟩ => ⟨S32768, .f32⟩
  | .hbm, ⟨56, _⟩ => ⟨S32768, .f32⟩
  | .hbm, ⟨57, _⟩ => ⟨S_, .i32⟩
  | .hbm, ⟨58, _⟩ => ⟨S_, .i32⟩
  | .hbm, ⟨59, _⟩ => ⟨S64, .f32⟩
  | .hbm, ⟨60, _⟩ => ⟨S64, .i32⟩
  | .hbm, ⟨61, _⟩ => ⟨S_, .f32⟩
  | .hbm, ⟨62, _⟩ => ⟨S32768, .f32⟩
  | .hbm, ⟨63, _⟩ => ⟨S_, .i32⟩
  | .hbm, ⟨64, _⟩ => ⟨S64, .i32⟩
  | .hbm, ⟨65, _⟩ => ⟨S64, .i1⟩
  | .hbm, ⟨66, _⟩ => ⟨S_, .i32⟩
  | .hbm, ⟨67, _⟩ => ⟨S64, .i32⟩
  | .hbm, ⟨68, _⟩ => ⟨S64, .i32⟩
  | .hbm, ⟨69, _⟩ => ⟨S64, .i32⟩
  | .hbm, ⟨70, _⟩ => ⟨S64x1, .i32⟩
  | .hbm, ⟨71, _⟩ => ⟨S_, .f32⟩
  | .hbm, ⟨72, _⟩ => ⟨S64, .f32⟩
  | .hbm, ⟨73, _⟩ => ⟨S32768, .f32⟩
  | .hbm, ⟨74, _⟩ => ⟨S32768, .f32⟩
  | .hbm, ⟨75, _⟩ => ⟨S32768, .f32⟩
  | .hbm, ⟨76, _⟩ => ⟨S1x32768, .f32⟩
  | .hbm, ⟨77, _⟩ => ⟨S64x32768, .f32⟩
  | .hbm, ⟨78, _⟩ => ⟨S64x32768, .f32⟩
  | .hbm, ⟨79, _⟩ => ⟨S1x32768, .f32⟩
  | .hbm, ⟨80, _⟩ => ⟨S64x32768, .f32⟩
  | .hbm, ⟨81, _⟩ => ⟨S64x32768, .f32⟩
  | .hbm, ⟨82, _⟩ => ⟨S64x32768, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_c : Ref sig .tc := ⟨.hbm, 21, rfl⟩
abbrev main_c_1 : Ref sig .tc := ⟨.hbm, 22, rfl⟩
abbrev main_v3_0 : Ref sig .tc := ⟨.hbm, 23, rfl⟩
abbrev main_v3_1 : Ref sig .tc := ⟨.hbm, 24, rfl⟩
abbrev main_v3_2 : Ref sig .tc := ⟨.hbm, 25, rfl⟩
abbrev main_v3_3 : Ref sig .tc := ⟨.hbm, 26, rfl⟩
abbrev main_v3_4 : Ref sig .tc := ⟨.hbm, 27, rfl⟩
abbrev main_while0c_c_10 : Ref sig .tc := ⟨.hbm, 28, rfl⟩
abbrev main_while0c_v22 : Ref sig .tc := ⟨.hbm, 29, rfl⟩
abbrev main_while0b_c_10 : Ref sig .tc := ⟨.hbm, 30, rfl⟩
abbrev main_while0b_v22 : Ref sig .tc := ⟨.hbm, 31, rfl⟩
abbrev main_while0b_cst_11 : Ref sig .tc := ⟨.hbm, 32, rfl⟩
abbrev main_while0b_v23 : Ref sig .tc := ⟨.hbm, 33, rfl⟩
abbrev main_while0b_v24 : Ref sig .tc := ⟨.hbm, 34, rfl⟩
abbrev main_while0b_cst_12 : Ref sig .tc := ⟨.hbm, 35, rfl⟩
abbrev main_while0b_v25 : Ref sig .tc := ⟨.hbm, 36, rfl⟩
abbrev main_while0b_v26 : Ref sig .tc := ⟨.hbm, 37, rfl⟩
abbrev main_while0b_v27 : Ref sig .tc := ⟨.hbm, 38, rfl⟩
abbrev main_while0b_v28 : Ref sig .tc := ⟨.hbm, 39, rfl⟩
abbrev main_while0b_cst_13 : Ref sig .tc := ⟨.hbm, 40, rfl⟩
abbrev main_while0b_v29 : Ref sig .tc := ⟨.hbm, 41, rfl⟩
abbrev main_while0b_v30 : Ref sig .tc := ⟨.hbm, 42, rfl⟩
abbrev main_while0b_cst_14 : Ref sig .tc := ⟨.hbm, 43, rfl⟩
abbrev main_while0b_v31 : Ref sig .tc := ⟨.hbm, 44, rfl⟩
abbrev main_while0b_cst_15 : Ref sig .tc := ⟨.hbm, 45, rfl⟩
abbrev main_while0b_v32 : Ref sig .tc := ⟨.hbm, 46, rfl⟩
abbrev main_while0b_v33 : Ref sig .tc := ⟨.hbm, 47, rfl⟩
abbrev main_while0b_v34 : Ref sig .tc := ⟨.hbm, 48, rfl⟩
abbrev main_while0b_v35 : Ref sig .tc := ⟨.hbm, 49, rfl⟩
abbrev main_while0b_v36 : Ref sig .tc := ⟨.hbm, 50, rfl⟩
abbrev main_while0b_cst_16 : Ref sig .tc := ⟨.hbm, 51, rfl⟩
abbrev main_while0b_v37 : Ref sig .tc := ⟨.hbm, 52, rfl⟩
abbrev main_while0b_v38 : Ref sig .tc := ⟨.hbm, 53, rfl⟩
abbrev main_while0b_v39 : Ref sig .tc := ⟨.hbm, 54, rfl⟩
abbrev main_while0b_v40 : Ref sig .tc := ⟨.hbm, 55, rfl⟩
abbrev main_while0b_v41 : Ref sig .tc := ⟨.hbm, 56, rfl⟩
abbrev main_while0b_c_17 : Ref sig .tc := ⟨.hbm, 57, rfl⟩
abbrev main_while0b_v42 : Ref sig .tc := ⟨.hbm, 58, rfl⟩
abbrev main_values : Ref sig .tc := ⟨.hbm, 59, rfl⟩
abbrev main_indices : Ref sig .tc := ⟨.hbm, 60, rfl⟩
abbrev main_cst_2 : Ref sig .tc := ⟨.hbm, 61, rfl⟩
abbrev main_v4 : Ref sig .tc := ⟨.hbm, 62, rfl⟩
abbrev main_c_3 : Ref sig .tc := ⟨.hbm, 63, rfl⟩
abbrev main_v5 : Ref sig .tc := ⟨.hbm, 64, rfl⟩
abbrev main_v6 : Ref sig .tc := ⟨.hbm, 65, rfl⟩
abbrev main_c_4 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst_5 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩

abbrev nD : Nat := 1
abbrev τ : Topo := Topo.v7x

variable {F : FTy → Type} [FloatOps F]

abbrev main_while0_count : Scf.Loop 32 := ⟨0#32, 64#32, 1#32⟩
-- ==== Proof.KernelPure.lean ====
module

public import proofs.«01_k».proof.Proof.Gen.Kernel.Skeleton
public import Idealize.ShloMosaic.Lib.Scf

/-!
# The kernel's selection as functions of its operands

Everything the kernel computes between its loads and its stores at the first grid point is pure. Here it is
given as functions: the relaxation (`khotOf`), the search for the 64th largest bit pattern (`threshold`), the
search for the last tied position (`tie`), and the row of selected values (`pert`). The theorems
`part9_run` and `part10_run` say that the two printed parts of the body are one load each followed by these
functions.
-/

@[expose] public section

noncomputable section

namespace Cert.Kernel.Hand

open Idealize.ShloMosaic Idealize.SL.Sem Cert.Kernel.Gen

variable {F : FTy → Type} [BitOps F]

/-- The indicator of a set of positions, as the kernel forms it: one where the bit is set and zero elsewhere. -/
def indF (p : IVec S8x4096 1) : FVec F S8x4096 .f32 :=
  select p (broadcast S8x4096 (Scalar.ofBits .f32 0x3F800000#32)) (broadcast S8x4096 (Scalar.ofBits .f32 0x00000000#32))

/-- The sum of an array, as the kernel forms it. -/
def totalF (v : FVec F S1x8x4096 .f32) : FVec F S1x1 .f32 :=
  broadcast S1x1 (extractAt ![0, 0, 0] (shapeCast S1x1x1
    (multiReduction .add [1, 2] S1 v 0x00000000#32 reduces_S1x8x4096_S1 (.inl rfl) rfl)
    shapeCasts_S1_S1x1x1) inpos_S1x1x1_p0_0_0)

/-- The number of positions of a set, as the kernel counts them. -/
def cntF (p : IVec S8x4096 1) : FVec F S1x1 .f32 :=
  totalF (shapeCast S1x8x4096 (indF p) shapeCasts_S8x4096_S1x8x4096)

/-- The pair (u, khot) after the kernel's 64 relaxation rounds on the logits `lg`. -/
def rounds (lg : FVec F S8x4096 .f32) : FVec F S8x4096 .f32 × FVec F S8x4096 .f32 :=
  Scf.fold (n := k0_t1_loop.trips)
    (fun _ acc => (k0_pay60 acc.1, k0_pay59 acc.1 acc.2)) (k0_pay56 lg, k0_pay57)

/-- The relaxed selection weights of the logits. -/
def khotOf (lg : FVec F S8x4096 .f32) : FVec F S8x4096 .f32 := (rounds lg).2

/-- The count of patterns that are at least `c`. -/
def cntGe (kb : IVec S8x4096 32) (c : IVec S1x1 32) : FVec F S1x1 .f32 :=
  cntF (cmpi .sge kb (broadcastTo S8x4096 c broadcasts_S1x1_S8x4096))

/-- 64 as the kernel writes it. -/
def c64 : FVec F S1x1 .f32 := broadcast S1x1 (Scalar.ofBits .f32 0x42800000#32)

/-- One round of the threshold search: of the four candidates with the next two bits set in every way, the largest
that at least 64 patterns reach. -/
def radixStep (F : FTy → Type) [BitOps F] (kb : IVec S8x4096 32) (b : BitVec 32) (t : IVec S1x1 32) : IVec S1x1 32 :=
  select (cmpf .oge (cntGe (F := F) kb (ori t (broadcast S1x1 (Scalar.ori (Scalar.addi b b) b)))) c64)
    (ori t (broadcast S1x1 (Scalar.ori (Scalar.addi b b) b)))
    (select (cmpf .oge (cntGe (F := F) kb (ori t (broadcast S1x1 (Scalar.addi b b)))) c64)
      (ori t (broadcast S1x1 (Scalar.addi b b)))
      (select (cmpf .oge (cntGe (F := F) kb (ori t (broadcast S1x1 b))) c64)
        (ori t (broadcast S1x1 b)) t))

/-- The bit that round `k` of the threshold search starts from: `2^(29 - 2k)`. -/
def radixBit (k : Fin k0_t2_loop.trips) : BitVec 32 :=
  Scalar.shli 1#32 (Scalar.subi 29#32 (Scalar.muli 2#32 (Scf.iv 0#32 1#32 k)))

/-- The fifteen rounds of the threshold search. -/
def radix (F : FTy → Type) [BitOps F] (kb : IVec S8x4096 32) : IVec S1x1 32 :=
  Scf.fold (n := k0_t2_loop.trips) (fun k acc => radixStep F kb (radixBit k) acc) k0_pay62

/-- The threshold: the rounds and the last bit. -/
def threshold (F : FTy → Type) [BitOps F] (kb : IVec S8x4096 32) : IVec S1x1 32 :=
  select (cmpf .oge (cntGe (F := F) kb (ori (radix F kb) (broadcast S1x1 1#32))) c64)
    (ori (radix F kb) (broadcast S1x1 1#32)) (radix F kb)

/-- The positions above the threshold. -/
def gtMask (kb : IVec S8x4096 32) (t : IVec S1x1 32) : IVec S8x4096 1 :=
  cmpi .sgt kb (broadcastTo S8x4096 t broadcasts_S1x1_S8x4096)

/-- The positions at the threshold. -/
def eqMask (kb : IVec S8x4096 32) (t : IVec S1x1 32) : IVec S8x4096 1 :=
  cmpi .eq kb (broadcastTo S8x4096 t broadcasts_S1x1_S8x4096)

/-- The count of positions of `q` that come before `t`. -/
def cntLt (q : IVec S8x4096 1) (t : IVec S1x1 32) : FVec F S1x1 .f32 :=
  cntF (andi q (cmpi .slt k0_pay69 (broadcastTo S8x4096 t broadcasts_S1x1_S8x4096)))

/-- The three candidates of a round of the tie search. -/
def cand1 (b : BitVec 32) (a : IVec S1x1 32) : IVec S1x1 32 := addi a (broadcast S1x1 b)
/-- See `cand1`. -/
def cand2 (b : BitVec 32) (a : IVec S1x1 32) : IVec S1x1 32 := addi a (broadcast S1x1 (Scalar.addi b b))
/-- See `cand1`. -/
def cand3 (b : BitVec 32) (a : IVec S1x1 32) : IVec S1x1 32 := addi (cand2 b a) (broadcast S1x1 b)

/-- One round of the tie search: of the four candidates, the largest with fewer than `e` tied positions before it. -/
def tieStep (q : IVec S8x4096 1) (e : FVec F S1x1 .f32) (b : BitVec 32) (a : IVec S1x1 32) : IVec S1x1 32 :=
  select (cmpf .olt (cntLt q (cand3 b a)) e) (cand3 b a)
    (select (cmpf .olt (cntLt q (cand2 b a)) e) (cand2 b a)
      (select (cmpf .olt (cntLt q (cand1 b a)) e) (cand1 b a) a))

/-- The bit that round `k` of the tie search starts from: `2^(13 - 2k)`. -/
def tieBit (k : BitVec 32) : BitVec 32 := Scalar.shli 1#32 (Scalar.subi 13#32 (Scalar.muli 2#32 k))

/-- The last bit of the tie search. -/
def tieLast (q : IVec S8x4096 1) (e : FVec F S1x1 .f32) (a : IVec S1x1 32) : IVec S1x1 32 :=
  select (cmpf .olt (cntLt q (addi a (broadcast S1x1 1#32))) e) (addi a (broadcast S1x1 1#32)) a

/-- The tie search over the tied positions `q` with `e` places left. -/
def tie (q : IVec S8x4096 1) (e : FVec F S1x1 .f32) : IVec S1x1 32 :=
  tieLast q e (tieStep q e (tieBit 6#32) (tieStep q e (tieBit 5#32) (tieStep q e (tieBit 4#32)
    (tieStep q e (tieBit 3#32) (tieStep q e (tieBit 2#32) (tieStep q e (tieBit 1#32)
      (tieStep q e (tieBit 0#32) k0_pay9)))))))

/-- The places left for tied positions: 64 less the positions above the threshold. -/
def places (g : IVec S8x4096 1) : FVec F S1x1 .f32 := subf c64 (cntF g)

/-- Whether the tie search runs: more than 64 patterns reach the threshold. -/
def searches (F : FTy → Type) [BitOps F] (kb : IVec S8x4096 32) (t : IVec S1x1 32) : BitVec 1 :=
  Scalar.cmpi .ne (Scalar.extui (Scalar.cmpf .ogt (k0_pay70 (F := F) kb t) (Scalar.ofBits .f32 0x00000000#32)) : BitVec 32) 0#32

/-- The last tied position that is selected. -/
def lastTied (F : FTy → Type) [BitOps F] (kb : IVec S8x4096 32) (t : IVec S1x1 32) : IVec S1x1 32 :=
  if searches F kb t = 1#1 then tie (F := F) (eqMask kb t) (places (gtMask kb t)) else k0_pay72

/-- The row of selected values computed from the relaxed weights: (1 - khot) + khot where selected, zero elsewhere. -/
def pertOf (kh : FVec F S8x4096 .f32) : FVec F S8x4096 .f32 :=
  k0_pay73 kh (gtMask (bitcastToInt kh) (threshold F (bitcastToInt kh)))
    (eqMask (bitcastToInt kh) (threshold F (bitcastToInt kh)))
    (lastTied F (bitcastToInt kh) (threshold F (bitcastToInt kh)))

/-- The row of selected values of the logits. -/
def pert (lg : FVec F S8x4096 .f32) : FVec F S8x4096 .f32 := pertOf (khotOf lg)

/-! ## The printed parts -/

variable (i : grid0.Coords)
  (arg1 : Memref sig .tc .vmem S8x4096 .f32) (harg1 : arg1.IsWhole)
  (arg2 : Memref sig .tc .hbm S64x32768 .f32) (harg2 : arg2.IsWhole)
  (arg3 : Memref sig .tc .vmem S1x4096 .f32) (harg3 : arg3.IsWhole)
  (arg4 : Memref sig .tc .vmem S64x4096 .f32) (harg4 : arg4.IsWhole)
  (arg5 : Memref sig .tc .vmem S8x4096 .f32) (harg5 : arg5.IsWhole)
  (arg6 : Memref sig .tc .vmem S64x32768 .f32) (harg6 : arg6.IsWhole)
  (arg7 : DmaSems sig S_)

/-- The first round's candidates. -/
theorem part2_run (q : IVec S8x4096 1) :
    k0_part2 (F := F) i arg1 harg1 arg2 harg2 arg3 harg3 arg4 harg4 arg5 harg5 arg6 harg6 arg7 q k0_pay69 =
      .ret ⟨k0_pay9, cand1 (tieBit 0#32) k0_pay9, cand2 (tieBit 0#32) k0_pay9, cand3 (tieBit 0#32) k0_pay9, cntLt (F := F) q (cand1 (tieBit 0#32) k0_pay9), cntLt (F := F) q (cand2 (tieBit 0#32) k0_pay9), cntLt (F := F) q (cand3 (tieBit 0#32) k0_pay9)⟩ := rfl

/-- Round 1 of the tie search, up to where the printed part ends. -/
theorem part3_run (q : IVec S8x4096 1) (e : FVec F S1x1 .f32) (a : IVec S1x1 32) :
    k0_part3 (F := F) i arg1 harg1 arg2 harg2 arg3 harg3 arg4 harg4 arg5 harg5 arg6 harg6 arg7 q e k0_pay69 a (cand1 (tieBit 0#32) a) (cand2 (tieBit 0#32) a) (cand3 (tieBit 0#32) a) (cntLt (F := F) q (cand1 (tieBit 0#32) a)) (cntLt (F := F) q (cand2 (tieBit 0#32) a)) (cntLt (F := F) q (cand3 (tieBit 0#32) a)) =
      .ret ⟨(tieStep q e (tieBit 0#32) a), cand1 (tieBit 1#32) (tieStep q e (tieBit 0#32) a), cand2 (tieBit 1#32) (tieStep q e (tieBit 0#32) a), cand3 (tieBit 1#32) (tieStep q e (tieBit 0#32) a), cntLt (F := F) q (cand1 (tieBit 1#32) (tieStep q e (tieBit 0#32) a)), cntLt (F := F) q (cand2 (tieBit 1#32) (tieStep q e (tieBit 0#32) a)), shapeCast S1x8x4096 (indF (F := F) (andi q (cmpi .slt k0_pay69 (broadcastTo S8x4096 (cand3 (tieBit 1#32) (tieStep q e (tieBit 0#32) a)) broadcasts_S1x1_S8x4096)))) shapeCasts_S8x4096_S1x8x4096⟩ := rfl

/-- Round 2 of the tie search, up to where the printed part ends. -/
theorem part4_run (q : IVec S8x4096 1) (e : FVec F S1x1 .f32) (a : IVec S1x1 32) :
    k0_part4 (F := F) i arg1 harg1 arg2 harg2 arg3 harg3 arg4 harg4 arg5 harg5 arg6 harg6 arg7 q e k0_pay69 a (cand1 (tieBit 1#32) a) (cand2 (tieBit 1#32) a) (cand3 (tieBit 1#32) a) (cntLt (F := F) q (cand1 (tieBit 1#32) a)) (cntLt (F := F) q (cand2 (tieBit 1#32) a)) (shapeCast S1x8x4096 (indF (F := F) (andi q (cmpi .slt k0_pay69 (broadcastTo S8x4096 (cand3 (tieBit 1#32) a) broadcasts_S1x1_S8x4096)))) shapeCasts_S8x4096_S1x8x4096) =
      .ret ⟨(tieStep q e (tieBit 1#32) a), cand1 (tieBit 2#32) (tieStep q e (tieBit 1#32) a), cand2 (tieBit 2#32) (tieStep q e (tieBit 1#32) a), cand3 (tieBit 2#32) (tieStep q e (tieBit 1#32) a), cntLt (F := F) q (cand1 (tieBit 2#32) (tieStep q e (tieBit 1#32) a)), cntLt (F := F) q (cand2 (tieBit 2#32) (tieStep q e (tieBit 1#32) a)), andi q (cmpi .slt k0_pay69 (broadcastTo S8x4096 (cand3 (tieBit 2#32) (tieStep q e (tieBit 1#32) a)) broadcasts_S1x1_S8x4096)), (Scalar.ofBits .f32 0x00000000#32), k0_pay30⟩ := rfl

/-- Round 3 of the tie search, up to where the printed part ends. -/
theorem part5_run (q : IVec S8x4096 1) (e : FVec F S1x1 .f32) (a : IVec S1x1 32) :
    k0_part5 (F := F) i arg1 harg1 arg2 harg2 arg3 harg3 arg4 harg4 arg5 harg5 arg6 harg6 arg7 q e k0_pay69 a (cand1 (tieBit 2#32) a) (cand2 (tieBit 2#32) a) (cand3 (tieBit 2#32) a) (cntLt (F := F) q (cand1 (tieBit 2#32) a)) (cntLt (F := F) q (cand2 (tieBit 2#32) a)) (andi q (cmpi .slt k0_pay69 (broadcastTo S8x4096 (cand3 (tieBit 2#32) a) broadcasts_S1x1_S8x4096))) (Scalar.ofBits .f32 0x00000000#32) k0_pay30 =
      .ret ⟨(tieStep q e (tieBit 2#32) a), cand1 (tieBit 3#32) (tieStep q e (tieBit 2#32) a), cand2 (tieBit 3#32) (tieStep q e (tieBit 2#32) a), cand3 (tieBit 3#32) (tieStep q e (tieBit 2#32) a), cntLt (F := F) q (cand1 (tieBit 3#32) (tieStep q e (tieBit 2#32) a)), cntLt (F := F) q (cand2 (tieBit 3#32) (tieStep q e (tieBit 2#32) a)), cmpi .slt k0_pay69 (broadcastTo S8x4096 (cand3 (tieBit 3#32) (tieStep q e (tieBit 2#32) a)) broadcasts_S1x1_S8x4096)⟩ := rfl

/-- Round 4 of the tie search, up to where the printed part ends. -/
theorem part6_run (q : IVec S8x4096 1) (e : FVec F S1x1 .f32) (a : IVec S1x1 32) :
    k0_part6 (F := F) i arg1 harg1 arg2 harg2 arg3 harg3 arg4 harg4 arg5 harg5 arg6 harg6 arg7 q e k0_pay69 a (cand1 (tieBit 3#32) a) (cand2 (tieBit 3#32) a) (cand3 (tieBit 3#32) a) (cntLt (F := F) q (cand1 (tieBit 3#32) a)) (cntLt (F := F) q (cand2 (tieBit 3#32) a)) (cmpi .slt k0_pay69 (broadcastTo S8x4096 (cand3 (tieBit 3#32) a) broadcasts_S1x1_S8x4096)) =
      .ret ⟨(tieStep q e (tieBit 3#32) a), cand1 (tieBit 4#32) (tieStep q e (tieBit 3#32) a), cand2 (tieBit 4#32) (tieStep q e (tieBit 3#32) a), cand3 (tieBit 4#32) (tieStep q e (tieBit 3#32) a), cntLt (F := F) q (cand1 (tieBit 4#32) (tieStep q e (tieBit 3#32) a)), shapeCast S1x1x1 (multiReduction .add [1, 2] S1 (shapeCast S1x8x4096 (indF (F := F) (andi q (cmpi .slt k0_pay69 (broadcastTo S8x4096 (cand2 (tieBit 4#32) (tieStep q e (tieBit 3#32) a)) broadcasts_S1x1_S8x4096)))) shapeCasts_S8x4096_S1x8x4096) 0x00000000#32 reduces_S1x8x4096_S1 (.inl rfl) rfl) shapeCasts_S1_S1x1x1⟩ := rfl

/-- Round 5 of the tie search, up to where the printed part ends. -/
theorem part7_run (q : IVec S8x4096 1) (e : FVec F S1x1 .f32) (a : IVec S1x1 32) :
    k0_part7 (F := F) i arg1 harg1 arg2 harg2 arg3 harg3 arg4 harg4 arg5 harg5 arg6 harg6 arg7 q e k0_pay69 a (cand1 (tieBit 4#32) a) (cand2 (tieBit 4#32) a) (cand3 (tieBit 4#32) a) (cntLt (F := F) q (cand1 (tieBit 4#32) a)) (shapeCast S1x1x1 (multiReduction .add [1, 2] S1 (shapeCast S1x8x4096 (indF (F := F) (andi q (cmpi .slt k0_pay69 (broadcastTo S8x4096 (cand2 (tieBit 4#32) a) broadcasts_S1x1_S8x4096)))) shapeCasts_S8x4096_S1x8x4096) 0x00000000#32 reduces_S1x8x4096_S1 (.inl rfl) rfl) shapeCasts_S1_S1x1x1) =
      .ret ⟨(tieStep q e (tieBit 4#32) a), cand1 (tieBit 5#32) (tieStep q e (tieBit 4#32) a), cand2 (tieBit 5#32) (tieStep q e (tieBit 4#32) a), cand3 (tieBit 5#32) (tieStep q e (tieBit 4#32) a), cntLt (F := F) q (cand1 (tieBit 5#32) (tieStep q e (tieBit 4#32) a)), indF (F := F) (andi q (cmpi .slt k0_pay69 (broadcastTo S8x4096 (cand2 (tieBit 5#32) (tieStep q e (tieBit 4#32) a)) broadcasts_S1x1_S8x4096)))⟩ := rfl

/-- Round 6 of the tie search, up to where the printed part ends. -/
theorem part8_run (q : IVec S8x4096 1) (e : FVec F S1x1 .f32) (a : IVec S1x1 32) :
    k0_part8 (F := F) i arg1 harg1 arg2 harg2 arg3 harg3 arg4 harg4 arg5 harg5 arg6 harg6 arg7 q e k0_pay69 a (cand1 (tieBit 5#32) a) (cand2 (tieBit 5#32) a) (cand3 (tieBit 5#32) a) (cntLt (F := F) q (cand1 (tieBit 5#32) a)) (indF (F := F) (andi q (cmpi .slt k0_pay69 (broadcastTo S8x4096 (cand2 (tieBit 5#32) a) broadcasts_S1x1_S8x4096)))) =
      .ret ⟨(tieStep q e (tieBit 5#32) a), cand1 (tieBit 6#32) (tieStep q e (tieBit 5#32) a), cand2 (tieBit 6#32) (tieStep q e (tieBit 5#32) a), cand3 (tieBit 6#32) (tieStep q e (tieBit 5#32) a), cntLt (F := F) q (cand1 (tieBit 6#32) (tieStep q e (tieBit 5#32) a)), andi q (cmpi .slt k0_pay69 (broadcastTo S8x4096 (cand2 (tieBit 6#32) (tieStep q e (tieBit 5#32) a)) broadcasts_S1x1_S8x4096)), (Scalar.ofBits .f32 0x3F800000#32)⟩ := rfl

/-- The end of the tie search. -/
theorem pay71_run (q g : IVec S8x4096 1) (a : IVec S1x1 32) :
    k0_pay71 (F := F) q (shapeCast S1x8x4096 (indF (F := F) g) shapeCasts_S8x4096_S1x8x4096) a (cand1 (tieBit 6#32) a) (cand2 (tieBit 6#32) a) (cand3 (tieBit 6#32) a) (cntLt (F := F) q (cand1 (tieBit 6#32) a)) (andi q (cmpi .slt k0_pay69 (broadcastTo S8x4096 (cand2 (tieBit 6#32) a) broadcasts_S1x1_S8x4096))) (Scalar.ofBits .f32 0x3F800000#32) =
      tieLast q (places (F := F) g) (tieStep q (places (F := F) g) (tieBit 6#32) a) := rfl

/-- One round of the threshold search. -/
theorem t2_run (h2 : k0_cond2 i = 1#1) (kh : FVec F S8x4096 .f32) (k : Fin k0_t2_loop.trips) (t : IVec S1x1 32) :
    k0_t2_body i arg1 harg1 arg2 harg2 arg3 harg3 arg4 harg4 arg5 harg5 arg6 harg6 arg7 h2 kh k t = .ret (radixStep F (bitcastToInt kh) (radixBit k) t) := rfl

/-- The first part of the selection: one load, and the functions above. -/
theorem part9_run (h2 : k0_cond2 i = 1#1) :
    k0_part9 (F := F) i arg1 harg1 arg2 harg2 arg3 harg3 arg4 harg4 arg5 harg5 arg6 harg6 arg7 h2 =
      (Prog.lift (.load arg1 (Rect.unit (s := S8x4096) ![0, 0] S8x4096.size inb_S8x4096_S8x4096_0_0).toLoadRect (View.loadsAt_vmem h_S8x4096)) >>=
        fun v22 : Vec F S8x4096 .f32 => Pure.pure ⟨khotOf v22, bitcastToInt (khotOf v22), threshold F (bitcastToInt (khotOf v22)),
          gtMask (bitcastToInt (khotOf v22)) (threshold F (bitcastToInt (khotOf v22))),
          eqMask (bitcastToInt (khotOf v22)) (threshold F (bitcastToInt (khotOf v22))),
          shapeCast S1x8x4096 (indF (gtMask (bitcastToInt (khotOf v22)) (threshold F (bitcastToInt (khotOf v22))))) shapeCasts_S8x4096_S1x8x4096⟩) := by
  rw [k0_part9_eq_skeleton]
  unfold k0_part9_skel
  refine congrArg (Prog.lift _ >>= ·) (funext fun v22 => ?_)
  simp only [Scf.Loop.for]
  rw [Scf.for_pure_bind (hg := fun k acc => (rfl : k0_t1_body i arg1 harg1 arg2 harg2 arg3 harg3 arg4 harg4 arg5 harg5 arg6 harg6 arg7 h2 k acc = .ret (k0_pay60 acc.1, k0_pay59 acc.1 acc.2)))]
  rw [Scf.for_pure_bind (hg := fun k acc => t2_run i arg1 harg1 arg2 harg2 arg3 harg3 arg4 harg4 arg5 harg5 arg6 harg6 arg7 h2 _ k acc)]
  rfl

/-- The second part of the selection: the tie search where it runs, a load whose value is not used, and the row. -/
theorem part10_run (kh : FVec F S8x4096 .f32) (kb : IVec S8x4096 32) (t : IVec S1x1 32) :
    k0_part10 (F := F) i arg1 harg1 arg2 harg2 arg3 harg3 arg4 harg4 arg5 harg5 arg6 harg6 arg7 kh kb t (gtMask kb t) (eqMask kb t)
        (shapeCast S1x8x4096 (indF (gtMask kb t)) shapeCasts_S8x4096_S1x8x4096) =
      (Prog.lift (.load arg5 (Rect.unit (s := S8x4096) ![0, 0] S8x4096.size inb_S8x4096_S8x4096_0_0).toLoadRect (View.loadsAt_vmem h_S8x4096)) >>=
        fun _ : Vec F S8x4096 .f32 => Pure.pure (k0_pay73 kh (gtMask kb t) (eqMask kb t) (lastTied F kb t))) := by
  have he : k0_pay68 (F := F) (shapeCast S1x8x4096 (indF (gtMask kb t)) shapeCasts_S8x4096_S1x8x4096) = places (gtMask kb t) := rfl
  rw [k0_part10_eq_skeleton]
  unfold k0_part10_skel
  by_cases hc : searches F kb t = 1#1
  · have hl : lastTied F kb t = tie (F := F) (eqMask kb t) (places (gtMask kb t)) := if_pos hc
    have hc' := hc
    unfold searches at hc'
    simp only [hl]
    rw [if_pos hc', he]
    rw [part2_run]
    simp only [Prog.bind_ret, part3_run, part4_run, part5_run, part6_run, part7_run, part8_run, pay71_run]
    rfl
  · have hl : lastTied F kb t = k0_pay72 := if_neg hc
    have hc' := hc
    unfold searches at hc'
    rw [hl, if_neg hc']
    rfl

end Cert.Kernel.Hand

end
-- ==== Proof.KernelRun.lean ====
module

public import proofs.«01_k».proof.Proof.KernelPure
public import proofs.«01_k».proof.Proof.Gen.Kernel.Frame
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

/-!
# The kernel's run

The body of the kernel run at the first grid point and at the later ones, with the values it leaves, over any float
values `F`. The scratch row and the copy of `x` are filled at the first point and carried to the later ones.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The resources' algebra: the pipeline library's beside the transfers' counters. -/
local notation "𝕄" => MT nD τ sig Unit (Elt F) ℕ (Pipeline.UD sig nD τ) ℕ

/-- The scratch row, the scratch copy of `x`, and `x` where it lies. -/
abbrev scP : Memref sig .tc .vmem S8x4096 .f32 := Memref.whole cc0_scratch0
/-- See `scP`. -/
abbrev scX : Memref sig .tc .vmem S64x32768 .f32 := Memref.whole cc0_scratch1
/-- See `scP`. -/
abbrev hbX : Memref sig .tc .hbm S64x32768 .f32 := Memref.whole main_arg0

/-- What a grid point stores: from `x` whole, the point's block of new values and the row of selected values. -/
def outBlk (i : grid0.Coords) (X : Vec F S64x32768 .f32) (pv : Vec F S1x4096 .f32) (P : Vec F S8x4096 .f32) : Vec F S64x4096 .f32 :=
  k0_pay2 (VecWindow.window X (k0_off1 i) S64x4096.size (k0_off1_inb i)) pv
    (VecWindow.window P (k0_off2 i) S1x4096.size (k0_off2_inb i))

/-- The body at the first point. -/
theorem runFirst (c : Dev nD) (i : grid0.Coords) (hi : k0_cond2 i = 1#1)
    (arg1 : Memref sig .tc .vmem S8x4096 .f32) (harg1 : arg1.IsWhole)
    (arg3 : Memref sig .tc .vmem S1x4096 .f32) (harg3 : arg3.IsWhole)
    (arg4 : Memref sig .tc .vmem S64x4096 .f32) (harg4 : arg4.IsWhole)
    (lg : Vec F S8x4096 .f32) (pv : Vec F S1x4096 .f32) (X : Vec F S64x32768 .f32) (W : Waits sig Unit) (K : PUnit → sProp 𝕄) :
    iprop(owns (c : Thread nD τ) arg1 fullShare lg ∗ owns (c : Thread nD τ) arg3 fullShare pv
        ∗ (∃ d, owns (c : Thread nD τ) arg4 fullShare d)
        ∗ (∃ d, owns (c : Thread nD τ) scP fullShare d) ∗ (∃ d, owns (c : Thread nD τ) scX fullShare d)
        ∗ semVal ((c : Thread nD τ), SemLoc.dma cc0_scratch2.sem) 0 ∗ owns (c : Thread nD τ) hbX fullShare X
        ∗ owes (c : Thread nD τ) 0 W
        ∗ (iprop(owns (c : Thread nD τ) arg1 fullShare lg ∗ owns (c : Thread nD τ) arg3 fullShare pv
              ∗ owns (c : Thread nD τ) arg4 fullShare (outBlk i X pv (k0_pay1 (pert lg)))
              ∗ owns (c : Thread nD τ) scP fullShare (k0_pay1 (pert lg)) ∗ owns (c : Thread nD τ) scX fullShare X
              ∗ semVal ((c : Thread nD τ), SemLoc.dma cc0_scratch2.sem) 0 ∗ owns (c : Thread nD τ) hbX fullShare X
              ∗ (∃ W', owes (c : Thread nD τ) 0 W')) -∗ K ⟨⟩))
      ⊢ wp frame (wpE (defs₀ (F := F)) Variants.none c none) Set.univ
          (cc0__pert_kernel i arg1 harg1 hbX (Memref.isWhole_whole _) arg3 harg3 arg4 harg4 scP (Memref.isWhole_whole _)
            scX (Memref.isWhole_whole _) cc0_scratch2) K := by
  have h1 : Scalar.cmpi .ne (Scalar.extui (Scalar.cmpi .eq (BitVec.ofNat 32 (i 0).val) 0#32) : BitVec 32) 0#32 = 1#1 := hi
  simp only [cc0__pert_kernel_eq_skeleton]; unfold cc0__pert_kernel_skel
  simp only [part9_run, Prog.bind_lift, Prog.bind_op, Prog.bind_ret, pure_bind, part10_run]
  unfold owns
  iintro ⟨⟨%f1, %e1, H1⟩, ⟨%f3, %e3, H3⟩, ⟨%d4, %f4, -, H4⟩, ⟨%dp, %fp, -, HP⟩, ⟨%dx, %fx, -, HX⟩, Hq, ⟨%fh, %eh, Hh⟩, HW, Hk⟩
  sl_exec
  sl_step
  iapply Hk
  have eP : View.read (Elt F) scP.view (scP.view.writes (Elt F) scP.view.junk (runFirst.sl.HP_1 c arg1 f1)) = k0_pay1 (pert lg) := by
    unfold runFirst.sl.HP_1
    exact (View.read_writes_full _ _ _ _ _).trans (by rw [View.readAt_full, e1]; rfl)
  have eX : View.read (Elt F) scX.view (scX.view.writes (Elt F) scX.view.junk [⟨Rect.whole S64x32768, runFirst.sl.dma0 c fh⟩]) = X := by
    unfold runFirst.sl.dma0
    exact (View.read_writes_whole _ _ _).trans eh
  have ev11 : runFirst.sl.v11 c i fh = VecWindow.window X (k0_off1 i) S64x4096.size (k0_off1_inb i) := by
    unfold runFirst.sl.v11
    exact (View.readAt_unit _ _ _ rfl _).trans (congrArg (fun z => VecWindow.window z _ _ _) eX)
  have ev15 : runFirst.sl.v15 c i arg1 f1 = VecWindow.window (k0_pay1 (pert lg)) (k0_off2 i) S1x4096.size (k0_off2_inb i) := by
    unfold runFirst.sl.v15
    exact (View.readAt_unit _ _ _ rfl _).trans (congrArg (fun z => VecWindow.window z _ _ _) eP)
  isplitl [H1]
  · iexists _; isplitr; swap; · iexact H1
    ipureintro; exact e1
  isplitl [H3]
  · iexists _; isplitr; swap; · iexact H3
    ipureintro; exact e3
  isplitl [H4]
  · iexists _; isplitr; swap; · iexact H4
    ipureintro
    rw [ev11, ev15]
    exact (View.read_writes_full _ _ _ _ _).trans (by rw [View.readAt_full, e3]; rfl)
  isplitl [HP]
  · iexists _; isplitr; swap; · iexact HP
    ipureintro; exact eP
  isplitl [HX]
  · iexists _; isplitr; swap; · iexact HX
    ipureintro; exact eX
  isplitl [Hq]; · iexact Hq
  isplitl [Hh]
  · iexists _; isplitr; swap; · iexact Hh
    ipureintro; exact eh
  iexists _; iexact HW

/-- The body at a later point: the scratch row and the copy of `x` are read and kept. -/
theorem runLater (c : Dev nD) (i : grid0.Coords) (hi : ¬ k0_cond2 i = 1#1)
    (arg1 : Memref sig .tc .vmem S8x4096 .f32) (harg1 : arg1.IsWhole)
    (arg3 : Memref sig .tc .vmem S1x4096 .f32) (harg3 : arg3.IsWhole)
    (arg4 : Memref sig .tc .vmem S64x4096 .f32) (harg4 : arg4.IsWhole)
    (pv : Vec F S1x4096 .f32) (X : Vec F S64x32768 .f32) (P : Vec F S8x4096 .f32) (K : PUnit → sProp 𝕄) :
    iprop(owns (c : Thread nD τ) arg3 fullShare pv
        ∗ (∃ d, owns (c : Thread nD τ) arg4 fullShare d)
        ∗ owns (c : Thread nD τ) scP fullShare P ∗ owns (c : Thread nD τ) scX fullShare X
        ∗ (iprop(owns (c : Thread nD τ) arg3 fullShare pv
              ∗ owns (c : Thread nD τ) arg4 fullShare (outBlk i X pv P)
              ∗ owns (c : Thread nD τ) scP fullShare P ∗ owns (c : Thread nD τ) scX fullShare X) -∗ K ⟨⟩))
      ⊢ wp frame (wpE (defs₀ (F := F)) Variants.none c none) Set.univ
          (cc0__pert_kernel i arg1 harg1 hbX (Memref.isWhole_whole _) arg3 harg3 arg4 harg4 scP (Memref.isWhole_whole _)
            scX (Memref.isWhole_whole _) cc0_scratch2) K := by
  have h1 : ¬ Scalar.cmpi .ne (Scalar.extui (Scalar.cmpi .eq (BitVec.ofNat 32 (i 0).val) 0#32) : BitVec 32) 0#32 = 1#1 := hi
  simp only [cc0__pert_kernel_eq_skeleton]; unfold cc0__pert_kernel_skel
  unfold owns
  iintro ⟨⟨%f3, %e3, H3⟩, ⟨%d4, %f4, -, H4⟩, ⟨%fp, %ep, HP⟩, ⟨%fx, %ex, HX⟩, Hk⟩
  sl_exec
  sl_step
  iapply Hk
  isplitl [H3]
  · iexists _; isplitr; swap; · iexact H3
    ipureintro; exact e3
  isplitl [H4]
  · iexists _; isplitr; swap; · iexact H4
    ipureintro
    exact (View.read_writes_full _ _ _ _ _).trans (by
      rw [View.readAt_full, View.readAt_unit scX.view _ _ rfl (k0_off1_inb i), View.readAt_unit scP.view _ _ rfl (k0_off2_inb i), e3, ep, ex]; rfl)
  isplitl [HP]
  · iexists _; isplitr; swap; · iexact HP
    ipureintro; exact ep
  iexists _; isplitr; swap; · iexact HX
  ipureintro; exact ex

end Cert.Kernel.Hand

end
-- ==== Proof.KernelFrame.lean ====
module

public import proofs.«01_k».proof.Proof.KernelRun

/-!
# The kernel's frame and result

From the body's runs: the pipeline's proof data, the run of the whole program, the frame, and the contents of the
result array in blocks.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The resources' algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The program up to the region, at this algebra. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphore. -/
abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch2.sem) 0) := by
  rw [Pipeline.ownSems0_eq_of_list c osem0 [0] (by decide) (by decide)]; rfl
/-- The array the body's copy reads where it lies. -/
def H0 : Finset (Ref sig .tc) := {main_arg0}
theorem H0_sub : H0 ⊆ Pipeline.restRefs sig spec0 := by decide

/-- `x` as the region finds it. -/
def xIn (c : Dev nD) : Vec F S64x32768 .f32 := hbX.view.read (Elt F) (V m c main_arg0)
/-- The logits as the first point finds them. -/
def lgIn (c : Dev nD) : Vec F S8x4096 .f32 := iblk m c 0 t0_0
/-- The scratch row after the first point. -/
def rowIn (c : Dev nD) : Vec F S8x4096 .f32 := k0_pay1 (pert (lgIn m c))

theorem hbmPts0_eq (c : Dev nD) :
    (bigSep H0 (fun b => ((c : Thread nD τ).loc b) ↦{fullShare} V m c b) : sProp 𝕄)
      = owns (c : Thread nD τ) hbX fullShare (xIn m c) := by
  rw [BI.bigSep_eq_bigSepL_of_eq [main_arg0] (by decide) (by decide)]
  unfold xIn; rw [owns_whole]; rfl

/-- What is held before the first point. -/
def Phi0 (c : Dev nD) : sProp 𝕄 := Pipeline.ΦD osem0 spec0 H0 (V m) c
/-- What is held after it: the scratch row and the copy of `x` at their values. -/
def Phi1 (c : Dev nD) : sProp 𝕄 :=
  iprop(iprop(owns (c : Thread nD τ) scP fullShare (rowIn m c) ∗ owns (c : Thread nD τ) scX fullShare (xIn m c))
    ∗ (∃ r, prngReg c r) ∗ iprop(semVal ((c : Thread nD τ), SemLoc.dma cc0_scratch2.sem) 0)
    ∗ owns (c : Thread nD τ) hbX fullShare (xIn m c))

theorem Phi0_eq (c : Dev nD) :
    Phi0 m c = iprop(iprop((∃ d, owns (c : Thread nD τ) scP fullShare d) ∗ (∃ d, owns (c : Thread nD τ) scX fullShare d))
    ∗ (∃ r, prngReg c r) ∗ iprop(semVal ((c : Thread nD τ), SemLoc.dma cc0_scratch2.sem) 0)
    ∗ owns (c : Thread nD τ) hbX fullShare (xIn m c)) := by
  unfold Phi0
  rw [Pipeline.ΦD_eq, scopedRest0_eq, ownSems00_eq, hbmPts0_eq]
  simp only [scP, scX, owns_whole]; try rfl

/-- The proof data: the arrays as the region finds them; each operand's block left in place; the result's block at
what the point stores. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (xIn m c) (iblk m c 1 t) (rowIn m c)
  Φ t := if t.val = 0 then Phi0 m c else Phi1 m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (grid0.coords t) (xIn m c) (iblk m c 1 t) (rowIn m c) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem Phi_first (c : Dev nD) (t : Fin (cfg0.N + 1)) (h : t.val = 0) : (dats m 0 c).Φ t = Phi0 m c := by
  dsimp only [dats]; exact if_pos h
theorem Phi_later (c : Dev nD) (t : Fin (cfg0.N + 1)) (h : t.val ≠ 0) : (dats m 0 c).Φ t = Phi1 m c := by
  dsimp only [dats]; exact if_neg h

/-- The first point's condition. -/
theorem cond_iff : ∀ t : Fin grid0.N, k0_cond2 (grid0.coords t) = 1#1 ↔ t.val = 0 := by decide

/-- The body at a point. -/
theorem sound_body (c : Dev nD) (t : Fin cfg0.N) :
    bodyPre m c t ⊢ Idealize.SL.Sem.wp frame (wpE (defs₀ (F := F)) Variants.none c none) Set.univ (bodyAt0 t) (fun _ => bodyPost m c t) := by
  unfold bodyPre bodyPost bodyAt0
  simp only [before0_0, before0_1]
  rw [after0_0, after0_1, after0_2]
  rw [Phi_later m c t.succ (Nat.succ_ne_zero t.val)]
  by_cases ht : t.val = 0
  · have htt : t = t0_0 := Fin.ext ht
    rw [Phi_first m c t.castSucc ht, Phi0_eq]
    unfold Phi1
    unfold Dat.owesAt Pipeline.owesWithin
    rw [show (dats m 0 c).owed t.castSucc = 0 from rfl, show (dats m 0 c).owed t.succ = 0 from rfl]
    iintro ⟨⟨⟨HP, HX⟩, Hg, Hq, Hh⟩, ⟨%W, -, HW⟩, ⟨%d0, H0⟩, ⟨%d1, H1⟩, ⟨%d2, H2⟩⟩
    have hl : iblk m c 0 t = lgIn m c := by rw [htt]; rfl
    iapply (runFirst c (grid0.coords t) ((cond_iff t).mpr ht) (st0_0 t) _ (st0_1 t) _ (st0_2 t) _ (iblk m c 0 t) (iblk m c 1 t) (xIn m c) W _)
    isplitl [H0]; · iexact H0
    isplitl [H1]; · iexact H1
    isplitl [H2]; · iexists _; iexact H2
    isplitl [HP]; · iexact HP
    isplitl [HX]; · iexact HX
    isplitl [Hq]; · iexact Hq
    isplitl [Hh]; · iexact Hh
    isplitl [HW]; · iexact HW
    iintro ⟨H0, H1, H2, HP, HX, Hq, Hh, ⟨%W', HW'⟩⟩
    rw [show k0_pay1 (pert (iblk m c 0 t)) = rowIn m c by rw [hl]; rfl]
    isplitl [HP HX Hg Hq Hh]
    · isplitl [HP HX]
      · isplitl [HP]; · iexact HP
        iexact HX
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    iexact H2
  · rw [Phi_later m c t.castSucc ht]
    unfold Phi1
    unfold Dat.owesAt Pipeline.owesWithin
    rw [show (dats m 0 c).owed t.castSucc = 0 from rfl, show (dats m 0 c).owed t.succ = 0 from rfl]
    iintro ⟨⟨⟨HP, HX⟩, Hg, Hq, Hh⟩, ⟨%W, -, HW⟩, ⟨%d0, H0⟩, ⟨%d1, H1⟩, ⟨%d2, H2⟩⟩
    iapply (runLater c (grid0.coords t) (fun h => ht ((cond_iff t).mp h)) (st0_0 t) _ (st0_1 t) _ (st0_2 t) _ (iblk m c 1 t) (xIn m c) (rowIn m c) _)
    isplitl [H1]; · iexact H1
    isplitl [H2]; · iexists _; iexact H2
    isplitl [HP]; · iexact HP
    isplitl [HX]; · iexact HX
    iintro ⟨H1, H2, HP, HX⟩
    isplitl [HP HX Hg Hq Hh]
    · isplitl [HP HX]
      · isplitl [HP]; · iexact HP
        iexact HX
      isplitl [Hg]; · iexact Hg
      isplitl [Hq]; · iexact Hq
      iexact Hh
    isplitl [HW]
    · iexists W; isplitr; · ipureintro; exact fun _ _ => Or.inl trivial
      iexact HW
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi1_out (c : Dev nD) : Phi1 m c ⊢ Phi0 m c := by
  rw [Phi0_eq]; unfold Phi1
  iintro ⟨⟨HP, HX⟩, HR⟩
  isplitl [HP HX]
  · isplitl [HP]; · iexists _; iexact HP
    iexists _; iexact HX
  iexact HR

set_option backward.isDefEq.respectTransparency.types false in
/-- The run of the whole program. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun c => Phi1_out m c)

/-- The frame and the result array's contents: the arguments as they were, the counters at zero, the result at what the
points' blocks leave. -/
theorem run_all : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
      ∧ ∀ c : Dev nD, r.2.mem ((c.tc : Thread nD τ).loc main_v2) = (dats m 0 c).arrAt 2 cfg0.N) :=
  (θ_run defs _ _).mono (fun _ h => ⟨⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩,
      fun c => (h.1 c).1 2⟩) (run_main m ρ)

end Cert.Kernel.Hand

end
-- ==== Proof.ReferenceFrame.lean ====
module

public import proofs.«01_k».proof.Proof.Gen.ReferenceIdeal.Run
public import Idealize.ShloMosaic.Lib.Quiescent

/-!
# The reference's frame

The reference is host operations around one counted loop and declares no semaphore: its run leaves the arguments as they
are, and there is no counter to be left at another value than zero.
-/

@[expose] public section

noncomputable section

namespace Cert.ReferenceIdeal.Hand

open Cert.ReferenceIdeal
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The run leaves the arguments and every counter as the frame says. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems rfl r.2⟩) (Cert.ReferenceIdeal.Value.run m ρ)

end Cert.ReferenceIdeal.Hand

end
-- ==== Proof.KernelValue.lean ====
module

public import proofs.«01_k».proof.Proof.KernelFrame
public import Idealize.ShloMosaic.Lib.Pipeline.ValueKit.Geometry
public import Idealize.ShloMosaic.Lib.StableHlo.ReadAt
public import Idealize.ShloMosaic.Lib.Pointwise.Reshape
public import Idealize.ShloMosaic.Lib.PointwiseCore

/-!
# The kernel's result

The result array at every element, in terms of the three arguments.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [BitOps F]
variable (m : (ℓ : Loc nD τ sig) → Buf (Elt F) ℓ)

/-- `x` moved towards the new values `pv` by the factors `row`, column by column. -/
def mix (x : FVec F S64x32768 .f32) (pv row : Fin 32768 → F .f32) : FVec F S64x32768 .f32 :=
  fun i => FloatOps.addf (x i) (FloatOps.mulf (FloatOps.subf (pv (i 1)) (x i)) (row (i 1)))

/-- A flat position as a place of the [8, 4096] tile. -/
def place (k : Fin 32768) : S8x4096.Idx := ix2 ⟨k.val / 4096, by omega⟩ ⟨k.val % 4096, by omega⟩

/-- The logits as the tile the kernel works on. -/
def tile {α : Type} (l : S32768.Idx → α) : S8x4096.Idx → α := shapeCast S8x4096 l shapeCasts_S32768_S8x4096

theorem V_main_v0 (c : Dev nD) : V m c main_v0 = tile (m ((c : Thread nD τ).loc main_arg1)) := by
  rfl
theorem V_main_v1 (c : Dev nD) : V m c main_v1 = shapeCast S1x32768 (m ((c : Thread nD τ).loc main_arg2)) shapeCasts_S32768_S1x32768 := by
  rfl

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel
theorem off1 : ∀ t : Fin grid0.N, k0_off1 (grid0.coords t) = ![0, t.val * 4096] := by decide +kernel
theorem off2 : ∀ t : Fin grid0.N, k0_off2 (grid0.coords t) = ![t.val, 0] := by decide +kernel

/-- The first point finds the logits whole. -/
theorem lgIn_eq (c : Dev nD) : lgIn m c = tile (m ((c : Thread nD τ).loc main_arg1)) := by
  funext y
  unfold lgIn
  blk_simp [iblk]
  rw [V_main_v0]
  congr 1
  blk_ext [index0]

/-- A window read at an index is the array read at the index moved by the offsets. -/
theorem window_eq {α : Type} {s : Shape} (x : s.Idx → α) (off size : Fin s.rank → ℕ) (inb : ∀ a, off a + size a ≤ s.size a)
    (y : (Rect.unit off size inb).shape.Idx) (z : s.Idx) (h : ∀ a, off a + (y a).val = (z a).val) :
    VecWindow.window x off size inb y = x z := by
  unfold VecWindow.window
  congr 1
  funext a
  exact Fin.ext ((ValueKit.rect_emb_unit_val off size inb y a).trans (h a))

/-- What a point stores, at an element. -/
theorem outBlk_apply (t : Fin grid0.N) (X : Vec F S64x32768 .f32) (pv : Vec F S1x4096 .f32) (P : Vec F S8x4096 .f32)
    (y : S64x4096.Idx) (z : S64x32768.Idx) (h0 : (z 0).val = (y 0).val) (h1 : (z 1).val = t.val * 4096 + (y 1).val) :
    outBlk (grid0.coords t) X pv P y
      = FloatOps.addf (X z) (FloatOps.mulf (FloatOps.subf (pv (ix2 0 (y 1))) (X z)) (P (place (z 1)))) := by
  have hy : (y 1).val < 4096 := (y 1).isLt
  have e1 := window_eq X (k0_off1 (grid0.coords t)) S64x4096.size (k0_off1_inb (grid0.coords t)) y z (fun a => by
    refine (congrArg (fun n : ℕ => n + (y a).val) (congrFun (off1 t) a)).trans ?_
    match a with
    | ⟨0, _⟩ => show 0 + (y 0).val = (z 0).val; omega
    | ⟨1, _⟩ => show t.val * 4096 + (y 1).val = (z 1).val; omega)
  have e2 := window_eq P (k0_off2 (grid0.coords t)) S1x4096.size (k0_off2_inb (grid0.coords t)) (ix2 0 (y 1)) (place (z 1)) (fun a => by
    refine (congrArg (fun n : ℕ => n + ((ix2 (0 : Fin 1) (y 1) : S1x4096.Idx) a).val) (congrFun (off2 t) a)).trans ?_
    match a with
    | ⟨0, _⟩ => show t.val + 0 = (z 1).val / 4096; omega
    | ⟨1, _⟩ => show 0 + (y 1).val = (z 1).val % 4096; omega)
  unfold outBlk k0_pay2
  rw [← e1, ← e2]
  generalize VecWindow.window X _ _ _ = A
  generalize VecWindow.window P _ _ _ = B
  pointwise

/-- A flat array as one row. -/
theorem row_apply {α : Type} (p : S32768.Idx → α) (z : Fin 32768) :
    shapeCast S1x32768 p shapeCasts_S32768_S1x32768 (ix2 0 z) = p (ix1 z) := by
  pointwise

/-- A flat array as the tile. -/
theorem tile_apply {α : Type} (p : S32768.Idx → α) (z : Fin 32768) : tile p (place z) = p (ix1 z) := by
  unfold tile place
  pointwise

/-- The block of new values, at an element. -/
theorem iblk1_apply (c : Dev nD) (t : Fin cfg0.N) (k : Fin 4096) (z : Fin 32768) (h : z.val = t.val * 4096 + k.val) :
    iblk m c 1 t (ix2 0 k) = m ((c : Thread nD τ).loc main_arg2) (ix1 z) := by
  blk_simp [iblk]
  rw [V_main_v1]
  have e : ((View.whole main_v1).slice (win0_1.rect t)).emb (ix2 0 k) = (ix2 0 z : S1x32768.Idx) := by
    funext a
    apply Fin.ext
    match a with
    | ⟨0, _⟩ => blk_simp [index1]
    | ⟨1, _⟩ => blk_simp [index1]; exact h.symm
  rw [e]
  exact row_apply (m ((c : Thread nD τ).loc main_arg2) : S32768.Idx → _) z

/-- The result array. -/
theorem final_out (c : Dev nD) : (dats m 0 c).arrAt 2 cfg0.N
    = mix (m ((c : Thread nD τ).loc main_arg0)) (fun k => m ((c : Thread nD τ).loc main_arg2) (ix1 k))
        (fun k => pert (tile (m ((c : Thread nD τ).loc main_arg1))) (place k)) := by
  refine (dats m 0 c).arrAt_eq_of_covers 2 _ (by decide +kernel) fun t hf y => ?_
  blk_simp
  rw [after0_2]
  have hx : xIn m c = m ((c : Thread nD τ).loc main_arg0) := by
    unfold xIn; rw [V_main_arg0]; rfl
  have hr : rowIn m c = pert (tile (m ((c : Thread nD τ).loc main_arg1))) := by
    unfold rowIn k0_pay1; rw [lgIn_eq, shapeCast_id]
  rw [hx, hr]
  have e0 : ((((View.whole main_v2).slice (win0_2.rect t)).emb y 0 : Fin _) : ℕ) = (y 0).val := by
    blk_simp [index2]
  have e1 : ((((View.whole main_v2).slice (win0_2.rect t)).emb y 1 : Fin _) : ℕ) = t.val * 4096 + (y 1).val := by
    blk_simp [index2]
  have h1 := outBlk_apply t (m ((c : Thread nD τ).loc main_arg0)) (iblk m c 1 t)
    (pert (tile (m ((c : Thread nD τ).loc main_arg1)))) y (((View.whole main_v2).slice (win0_2.rect t)).emb y) e0 e1
  rw [iblk1_apply m c t (y 1) _ e1] at h1
  exact h1

end Cert.Kernel.Hand

end
-- ==== Proof.Rank.lean ====
module

public import Idealize.ShloMosaic.Lib.SortFacts

/-!
# Ranks, thresholds and stable sorts

A position of a finite row of integer keys comes before another when its key is greater, or equal with a lower
index. The rank of a position is the number of positions before it. This file says two things about ranks. The
positions of nonnegative key and rank less than `m` are those above a threshold `t` and the first few at it,
where `t` is the largest number that at least `m` keys reach (`selected_iff`). And the first `m` entries of the
stable sort by descending key are the positions of rank less than `m` (`sorted_iff`).
-/

@[expose] public section

namespace Cert.Rank

open Finset

variable {n : ℕ}

/-- Position `q` comes before position `k`. -/
def before (key : Fin n → ℤ) (q k : Fin n) : Prop := key k < key q ∨ (key q = key k ∧ q < k)

instance (key : Fin n → ℤ) (q k : Fin n) : Decidable (before key q k) := by unfold before; infer_instance

/-- The number of positions before `k`. -/
def rank (key : Fin n → ℤ) (k : Fin n) : ℕ := (univ.filter fun q => before key q k).card

/-- The number of keys that are at least `c`. -/
def reach (key : Fin n → ℤ) (c : ℕ) : ℕ := (univ.filter fun q => (c : ℤ) ≤ key q).card

/-- The number of keys equal to `c` at positions of index less than `b`. -/
def tied (key : Fin n → ℤ) (c b : ℕ) : ℕ := (univ.filter fun q : Fin n => key q = (c : ℤ) ∧ q.val < b).card

theorem reach_anti (key : Fin n → ℤ) {c d : ℕ} (h : c ≤ d) : reach key d ≤ reach key c :=
  card_le_card fun q hq => by
    simp only [mem_filter, mem_univ, true_and] at hq ⊢
    omega

theorem tied_mono (key : Fin n → ℤ) (c : ℕ) {a b : ℕ} (h : a ≤ b) : tied key c a ≤ tied key c b :=
  card_le_card fun q hq => by
    simp only [mem_filter, mem_univ, true_and] at hq ⊢
    omega

/-- The rank of a position whose key is the threshold. -/
theorem rank_at (key : Fin n → ℤ) (t : ℕ) (k : Fin n) (hk : key k = (t : ℤ)) :
    rank key k = reach key (t + 1) + tied key t k.val := by
  unfold rank reach tied
  rw [← card_union_of_disjoint]
  · congr 1
    ext q
    simp only [mem_filter, mem_univ, true_and, mem_union]
    simp only [before, hk, Fin.lt_def]
    push_cast
    omega
  · rw [disjoint_left]
    intro q hq hq'
    simp only [mem_filter, mem_univ, true_and] at hq hq'
    push_cast at hq
    omega

/-- The keys that reach `t`, apart from `k` itself, number at least the keys above it and those tied before `k`. -/
theorem tied_lt (key : Fin n → ℤ) (t : ℕ) (k : Fin n) (hk : key k = (t : ℤ)) :
    reach key (t + 1) + tied key t k.val < reach key t := by
  rw [← rank_at key t k hk]
  unfold rank reach
  refine card_lt_card ((ssubset_iff_of_subset fun q hq => ?_).2 ⟨k, ?_, ?_⟩)
  · simp only [mem_filter, mem_univ, true_and] at hq ⊢
    simp only [before, Fin.lt_def] at hq ⊢
    omega
  · simp only [mem_filter, mem_univ, true_and]
    omega
  · simp only [mem_filter, mem_univ, true_and]
    simp only [before, Fin.lt_def]
    omega

/-- The positions of nonnegative key and rank less than `m`, by a threshold. -/
theorem selected_iff (key : Fin n → ℤ) (m t : ℕ) (ht : t = 0 ∨ m ≤ reach key t) (ht' : reach key (t + 1) < m) (k : Fin n) :
    (0 ≤ key k ∧ rank key k < m) ↔ ((t : ℤ) < key k ∨ (key k = (t : ℤ) ∧ reach key (t + 1) + tied key t k.val < m)) := by
  rcases lt_trichotomy (key k) (t : ℤ) with h | h | h
  · have h1 : ¬ (0 ≤ key k ∧ rank key k < m) := by
      rintro ⟨h0, hr⟩
      rcases ht with rfl | ht
      · omega
      · refine absurd hr (not_lt.2 (ht.trans (card_le_card fun q hq => ?_)))
        simp only [mem_filter, mem_univ, true_and] at hq ⊢
        simp only [before, Fin.lt_def] at hq ⊢
        omega
    refine iff_of_false h1 ?_
    omega
  · rw [rank_at key t k h]
    constructor
    · rintro ⟨_, h2⟩
      exact .inr ⟨h, h2⟩
    · rintro (h2 | ⟨_, h2⟩)
      · omega
      · exact ⟨by omega, h2⟩
  · refine iff_of_true ⟨by omega, lt_of_le_of_lt (card_le_card fun q hq => ?_) ht'⟩ (.inl h)
    simp only [mem_filter, mem_univ, true_and] at hq ⊢
    simp only [before, Fin.lt_def] at hq ⊢
    push_cast
    omega

/-- Keys that agree where nonnegative, and are negative together, select the same positions. -/
theorem selected_congr (key key' : Fin n → ℤ) (m : ℕ) (h : ∀ q, 0 ≤ key q → key' q = key q) (h' : ∀ q, key q < 0 → key' q < 0) (k : Fin n) :
    (0 ≤ key' k ∧ rank key' k < m) ↔ (0 ≤ key k ∧ rank key k < m) := by
  by_cases hk : 0 ≤ key k
  · have e : rank key' k = rank key k := by
      unfold rank
      refine congrArg Finset.card (filter_congr fun q _ => ?_)
      simp only [before, h k hk]
      by_cases hq : 0 ≤ key q
      · rw [h q hq]
      · have := h' q (not_le.1 hq)
        omega
    rw [e, h k hk]
  · have := h' k (not_le.1 hk)
    omega

/-- With `p` zeros after the keys, a position's rank is below `p` when its key is nonnegative and its rank without them is. -/
theorem rank_padded {N p : ℕ} (hN : N = n + p) (hle : n ≤ N) (key : Fin n → ℤ) (key' : Fin N → ℤ) (hlo : ∀ k : Fin n, key' (k.castLE hle) = key k)
    (hhi : ∀ i : Fin N, n ≤ i.val → key' i = 0) (k : Fin n) : rank key' (k.castLE hle) < p ↔ (0 ≤ key k ∧ rank key k < p) := by
  have hk := k.isLt
  by_cases h : 0 ≤ key k
  · have e : rank key' (k.castLE hle) = rank key k := by
      have hf : (univ.filter fun q => before key' q (k.castLE hle)) = (univ.filter fun q => before key q k).map (Fin.castLEEmb hle) := by
        ext q
        simp only [mem_filter, mem_univ, true_and, mem_map]
        constructor
        · intro hq
          have hqn : q.val < n := by
            by_contra hc
            have h0 := hhi q (not_lt.1 hc)
            simp only [before, hlo, h0, Fin.lt_def, Fin.val_castLE] at hq
            omega
          refine ⟨⟨q.val, hqn⟩, ?_, rfl⟩
          have hq' : key' q = key ⟨q.val, hqn⟩ := hlo ⟨q.val, hqn⟩
          simp only [before, hlo, hq', Fin.lt_def, Fin.val_castLE] at hq ⊢
          exact hq
        · rintro ⟨q, hq, rfl⟩
          have hq' : key' (Fin.castLEEmb hle q) = key q := hlo q
          simp only [before, hlo, hq', Fin.lt_def, Fin.val_castLE] at hq ⊢
          exact hq
      unfold rank
      rw [hf, card_map]
    rw [e]
    exact ⟨fun hr => ⟨h, hr⟩, fun hr => hr.2⟩
  · refine iff_of_false (not_lt.2 ?_) (fun hc => h hc.1)
    have hc : ((univ : Finset (Fin p)).map ⟨fun i => (⟨n + i.val, by omega⟩ : Fin N), fun a b hab => by
        have := congrArg Fin.val hab
        dsimp only at this
        exact Fin.ext (by omega)⟩).card = p := by
      rw [card_map, card_univ, Fintype.card_fin]
    refine hc.symm.le.trans (card_le_card fun q hq => ?_)
    simp only [mem_map, mem_univ, true_and, mem_filter] at hq ⊢
    obtain ⟨i, rfl⟩ := hq
    left
    have e0 := hhi (⟨n + i.val, by omega⟩ : Fin N) (by dsimp only; omega)
    have e1 := hlo k
    show key' (k.castLE hle) < key' ⟨n + i.val, _⟩
    rw [e0, e1]
    exact not_le.1 h

/-! ## The stable sort -/

open Idealize.ShloMosaic

/-- `before` as a decision. -/
def beforeB (key : Fin n → ℤ) (q k : Fin n) : Bool := decide (before key q k)

theorem sorted_lt (key : Fin n → ℤ) (i j : Fin n) (h : i < j) :
    before key (sortedFrom (fun a b => decide (key b < key a)) i) (sortedFrom (fun a b => decide (key b < key a)) j) := by
  have hc : stableSort (fun a b => decide (key b < key a)) (List.finRange n) = stableSort (beforeB key) (List.finRange n) := by
    suffices ∀ l : List (Fin n), l.Pairwise (· < ·) →
        stableSort (fun a b => decide (key b < key a)) l = stableSort (beforeB key) l from this _ (List.pairwise_lt_finRange n)
    intro l hl
    induction l with
    | nil => rfl
    | cons a l ih =>
      rw [List.pairwise_cons] at hl
      unfold stableSort
      rw [ih hl.2]
      refine insertBefore_congr _ _ _ _ fun b hb => ?_
      have hab := hl.1 b ((perm_stableSort _ _).mem_iff.1 hb)
      unfold beforeB
      refine decide_eq_decide.2 ?_
      unfold before
      omega
  have hp := pairwise_stableSort (beforeB key) (beforeB key)
    (fun a b h => by simp only [beforeB, decide_eq_true_eq, decide_eq_false_iff_not] at h ⊢; simp only [before, Fin.lt_def] at h ⊢; omega)
    (fun _ _ h => h)
    (fun a b c h₁ h₂ => by simp only [beforeB, decide_eq_false_iff_not] at h₁ h₂ ⊢; simp only [before, Fin.lt_def] at h₁ h₂ ⊢; omega) (List.finRange n)
  rw [← hc] at hp
  have hg := List.pairwise_iff_get.1 hp (i.cast (length_sortPositions n _).symm) (j.cast (length_sortPositions n _).symm) h
  have hne : sortedFrom (fun a b => decide (key b < key a)) i ≠ sortedFrom (fun a b => decide (key b < key a)) j :=
    fun he => absurd (sortedFrom_injective _ he) h.ne
  change beforeB key (sortedFrom (fun a b => decide (key b < key a)) j) (sortedFrom (fun a b => decide (key b < key a)) i) = false at hg
  simp only [beforeB, decide_eq_false_iff_not] at hg
  have hne' := fun h => hne (Fin.ext h)
  simp only [before, Fin.lt_def] at hg ⊢
  omega

/-- The entry at place `i` of the stable sort by descending key is the position of rank `i`. -/
theorem rank_sorted (key : Fin n → ℤ) (i : Fin n) : rank key (sortedFrom (fun a b => decide (key b < key a)) i) = i.val := by
  have he : (univ.filter fun q => before key q (sortedFrom (fun a b => decide (key b < key a)) i)) =
      (univ.filter fun j : Fin n => j < i).image (sortedFrom fun a b => decide (key b < key a)) := by
    ext q
    simp only [mem_filter, mem_univ, true_and, mem_image]
    constructor
    · intro hq
      obtain ⟨j, rfl⟩ := sortedFrom_surjective (fun a b => decide (key b < key a)) q
      refine ⟨j, ?_, rfl⟩
      rcases lt_trichotomy j i with h | h | h
      · exact h
      · subst h
        simp only [before] at hq
        omega
      · have := sorted_lt key i j h
        simp only [before] at hq this
        omega
    · rintro ⟨j, hj, rfl⟩
      exact sorted_lt key j i hj
  unfold rank
  rw [he, card_image_of_injective _ (sortedFrom_injective _)]
  have : (univ.filter fun j : Fin n => j < i) = Finset.Iio i := by ext; simp
  rw [this, Fin.card_Iio]

/-- The first `m` entries of the stable sort by descending key are the positions of rank less than `m`. -/
theorem sorted_iff (key : Fin n → ℤ) (m : ℕ) (k : Fin n) :
    (∃ i : Fin n, i.val < m ∧ sortedFrom (fun a b => decide (key b < key a)) i = k) ↔ rank key k < m := by
  constructor
  · rintro ⟨i, hi, rfl⟩
    rwa [rank_sorted]
  · intro h
    obtain ⟨i, rfl⟩ := sortedFrom_surjective (fun a b => decide (key b < key a)) k
    rw [rank_sorted] at h
    exact ⟨i, h, rfl⟩

end Cert.Rank

end
-- ==== Proof.Counts.lean ====
module

public import proofs.«01_k».proof.Proof.KernelValue
public import proofs.«01_k».proof.Proof.Rank
public import Idealize.ShloMosaic.Lib.NatWords
public import Idealize.ShloMosaic.Lib.NatWordsOrder
public import Idealize.ShloMosaic.Lib.WordCmp

/-!
# The kernel's counts

The kernel counts positions in f32: it sums an array of ones and zeros. The sum of an array of small naturals is
taken to be the pattern of the exact sum, and 32768 positions stay far below 2^24, so the count is exact. Its
comparisons with 64 and with the number of places left are comparisons of naturals.
-/

@[expose] public section

noncomputable section

namespace Cert.Kernel.Hand

open Idealize.ShloMosaic Idealize.ShloMosaic.Bits Cert.Kernel.Gen Finset

/-- The number of positions of a set. -/
def num (p : IVec S8x4096 1) : ℕ := (univ.filter fun k : Fin 32768 => p (place k) = 1#1).card

theorem num_le (p : IVec S8x4096 1) : num p ≤ 32768 := (card_le_univ _).trans (by simp)

/-- The positions of the reshaped array in their flat order. -/
def flat : S1x8x4096.Idx ≃ Fin 32768 where
  toFun i := ⟨(i 1).val * 4096 + (i 2).val, by have h1 : (i 1).val < 8 := (i 1).isLt; have h2 : (i 2).val < 4096 := (i 2).isLt; omega⟩
  invFun k := ix3 0 ⟨k.val / 4096, by omega⟩ ⟨k.val % 4096, by omega⟩
  left_inv i := by
    have h2 : (i 2).val < 4096 := (i 2).isLt
    funext a
    match a with
    | ⟨0, _⟩ => exact Subsingleton.elim (α := Fin 1) _ _
    | ⟨1, _⟩ => exact Fin.ext (show ((i 1).val * 4096 + (i 2).val) / 4096 = (i 1).val by omega)
    | ⟨2, _⟩ => exact Fin.ext (show ((i 1).val * 4096 + (i 2).val) % 4096 = (i 2).val by omega)
  right_inv k := by
    apply Fin.ext
    dsimp only
    exact Nat.div_add_mod' k.val 4096

theorem flat_apply {α : Type} (p : S8x4096.Idx → α) (i : S1x8x4096.Idx) :
    shapeCast S1x8x4096 p shapeCasts_S8x4096_S1x8x4096 i = p (place (flat i)) := by
  obtain ⟨k, rfl⟩ := flat.symm.surjective i
  rw [Equiv.apply_symm_apply]
  unfold place
  show shapeCast S1x8x4096 p shapeCasts_S8x4096_S1x8x4096 (ix3 0 ⟨k.val / 4096, by omega⟩ ⟨k.val % 4096, by omega⟩) = _
  pointwise

theorem one_eq : (Scalar.ofBits .f32 0x3F800000#32 : Bits .f32) = f32OfNat 1 := by
  rw [f32OfNat_eq 1 (by decide)]
  decide +kernel

theorem zero_eq : (Scalar.ofBits .f32 0x00000000#32 : Bits .f32) = f32OfNat 0 := by
  rw [f32OfNat_eq 0 (by decide)]
  decide +kernel

theorem c64_eq : (c64 : FVec Bits S1x1 .f32) = fun _ => f32OfNat 64 := by
  have : (Scalar.ofBits .f32 0x42800000#32 : Bits .f32) = f32OfNat 64 := by
    rw [f32OfNat_eq 64 (by decide)]
    decide +kernel
  unfold c64
  rw [this]
  rfl

/-- A count is exact. -/
theorem cntF_eq (p : IVec S8x4096 1) : cntF (F := Bits) p = fun _ => f32OfNat (num p) := by
  have key : ∀ j, multiReduction (F := Bits) .add [1, 2] S1 (shapeCast S1x8x4096 (indF p) shapeCasts_S8x4096_S1x8x4096) 0x00000000#32
      reduces_S1x8x4096_S1 (.inl rfl) rfl j = f32OfNat (num p) := by
    intro j
    have hs : (reduceFiber reduces_S1x8x4096_S1 j).sum (fun i => if p (place (flat i)) = 1#1 then 1 else 0) = num p := by
      have hu : reduceFiber reduces_S1x8x4096_S1 j = univ := by
        unfold reduceFiber
        refine filter_true_of_mem fun i _ => ?_
        funext a
        match a with
        | ⟨0, _⟩ => exact Subsingleton.elim (α := Fin 1) _ _
      rw [hu, Equiv.sum_comp flat (fun k => if p (place k) = 1#1 then 1 else 0)]
      unfold num
      rw [card_filter]
    rw [multiReduction_add_nat _ _ _ _ (fun i => if p (place (flat i)) = 1#1 then 1 else 0)]
    · rw [hs]
    · intro i _
      rw [flat_apply]
      show natOfF32? (if p (place (flat i)) = 1#1 then (Scalar.ofBits .f32 0x3F800000#32 : Bits .f32) else (Scalar.ofBits .f32 0x00000000#32 : Bits .f32)) = _
      rw [one_eq, zero_eq]
      split
      · exact natOfF32?_f32OfNat 1 (by decide)
      · exact natOfF32?_f32OfNat 0 (by decide)
    · rw [hs]
      exact lt_of_le_of_lt (num_le p) (by decide)
  funext z
  exact key _

/-- A count reaches 64. -/
theorem cnt_oge (p : IVec S8x4096 1) :
    cmpf .oge (cntF (F := Bits) p) c64 = fun _ => BitVec.ofBool (decide (64 ≤ num p)) := by
  rw [cntF_eq, c64_eq]
  funext z
  exact cmpf32_oge_nat (lt_of_le_of_lt (num_le p) (by decide)) (by decide)

/-- A count is below a natural. -/
theorem cnt_olt (p : IVec S8x4096 1) (e : ℕ) (he : e < 2 ^ 24) :
    cmpf .olt (cntF (F := Bits) p) (fun _ => f32OfNat e) = fun _ => BitVec.ofBool (decide (num p < e)) := by
  rw [cntF_eq]
  funext z
  exact cmpf32_olt_nat (lt_of_le_of_lt (num_le p) (by decide)) he

/-- The places left. -/
theorem places_eq (g : IVec S8x4096 1) (h : num g ≤ 64) : places (F := Bits) g = fun _ => f32OfNat (64 - num g) := by
  unfold places
  rw [cntF_eq, c64_eq]
  funext z
  exact subf32_nat _ _ h (by decide)

end Cert.Kernel.Hand

end
-- ==== Proof.Search.lean ====
module

public import proofs.«01_k».proof.Proof.Counts
public import Idealize.ShloMosaic.Lib.StableHlo.Predicate

/-!
# The kernel's two searches

Both searches fix the bits of a number from the top, two at a time, and then the last one: of the four candidates
they keep the largest that passes a test. A test that a larger number passes only if every smaller one does is
passed by exactly the numbers up to the result (`Inv`). The first search finds the threshold, the largest number
that at least 64 patterns reach. The second finds the last tied position with fewer than the places left before it.
-/

@[expose] public section

noncomputable section

namespace Cert.Kernel.Hand

open Idealize.ShloMosaic Idealize.ShloMosaic.Bits Cert.Kernel.Gen Cert.Rank Finset

/-! ## Searching a number -/

/-- The largest of four candidates that passes the test `G`. -/
def pick (G : ℕ → Prop) [DecidablePred G] (b t : ℕ) : ℕ :=
  if G (t + 3 * b) then t + 3 * b else if G (t + 2 * b) then t + 2 * b else if G (t + b) then t + b else t

/-- The state of a search below `2^N` with the bits from `L` up fixed: the number found passes, and the next of its
step does not. -/
structure Inv (G : ℕ → Prop) (N L t : ℕ) : Prop where
  dvd : 2 ^ L ∣ t
  le : t + 2 ^ L ≤ 2 ^ N
  pass : t = 0 ∨ G t
  stop : ¬ G (t + 2 ^ L)

theorem Inv.step {G : ℕ → Prop} [DecidablePred G] (hG : ∀ c d, c ≤ d → G d → G c) {N L t : ℕ} (h : Inv G N (L + 2) t) :
    Inv G N L (pick G (2 ^ L) t) := by
  obtain ⟨h1, h2, h3, h4⟩ := h
  have e : 2 ^ (L + 2) = 4 * 2 ^ L := by rw [pow_add, Nat.mul_comm]; rfl
  have hd : 2 ^ L ∣ t := (Dvd.intro_left 4 e.symm).trans h1
  have d : ∀ j, 2 ^ L ∣ t + j * 2 ^ L := fun j => Dvd.dvd.add hd ⟨j, Nat.mul_comm _ _⟩
  rw [e] at h2 h4
  unfold pick
  split_ifs with g3 g2 g1
  · exact ⟨d 3, by omega, .inr g3, by rwa [show t + 3 * 2 ^ L + 2 ^ L = t + 4 * 2 ^ L by omega]⟩
  · exact ⟨d 2, by omega, .inr g2, by rwa [show t + 2 * 2 ^ L + 2 ^ L = t + 3 * 2 ^ L by omega]⟩
  · exact ⟨by simpa using d 1, by omega, .inr g1, by rwa [show t + 2 ^ L + 2 ^ L = t + 2 * 2 ^ L by omega]⟩
  · exact ⟨hd, by omega, h3, g1⟩

theorem Inv.last {G : ℕ → Prop} [DecidablePred G] {N t : ℕ} (h : Inv G N 1 t) :
    Inv G N 0 (if G (t + 1) then t + 1 else t) := by
  obtain ⟨h1, h2, h3, h4⟩ := h
  split_ifs with g
  · exact ⟨one_dvd _, by omega, .inr g, h4⟩
  · exact ⟨one_dvd _, by omega, h3, g⟩

/-- A property that a loop's trips carry along holds of its result. -/
theorem fold_rec {σ : Type} {n : ℕ} (g : Fin n → σ → σ) (P : ℕ → σ → Prop) (init : σ) (h0 : P 0 init)
    (hs : ∀ (k : Fin n) acc, P k.val acc → P (k.val + 1) (g k acc)) : P n (Scf.fold g init) := by
  rw [Scf.fold_eq]
  induction n with
  | zero => exact h0
  | succ n ih =>
    rw [List.finRange_succ_last, List.foldl_append, List.foldl_map]
    exact hs (Fin.last n) _ (ih (fun k acc => g k.castSucc acc) fun k acc h => hs k.castSucc acc h)

/-! ## Words and numbers -/

/-- A number as the constant word array that the searches carry. -/
def word (t : ℕ) : IVec S1x1 32 := fun _ => BitVec.ofNat 32 t

theorem sel_const (P : Prop) [Decidable P] (a b : ℕ) :
    select (fun _ : S1x1.Idx => BitVec.ofBool (decide P)) (word a) (word b) = word (if P then a else b) := by
  by_cases h : P
  · rw [if_pos h, decide_eq_true h]; rfl
  · rw [if_neg h, decide_eq_false h]; rfl

theorem toInt_small {t : ℕ} (h : t < 2 ^ 31) : (BitVec.ofNat 32 t).toInt = (t : ℤ) :=
  StableHlo.Predicate.toInt_ofNat_small _ h

theorem ofBool_one (P : Prop) [Decidable P] : BitVec.ofBool (decide P) = 1#1 ↔ P := by
  by_cases h : P <;> simp [h]

/-- The signed value of the pattern at a flat position. -/
def keyOf (kb : IVec S8x4096 32) (k : Fin 32768) : ℤ := (kb (place k)).toInt

variable (kb : IVec S8x4096 32)

theorem num_ge {c : ℕ} (h : c < 2 ^ 31) :
    num (cmpi .sge kb (broadcastTo S8x4096 (word c) broadcasts_S1x1_S8x4096)) = reach (keyOf kb) c := by
  unfold num reach keyOf
  refine congrArg Finset.card (filter_congr fun k _ => ?_)
  show BitVec.ofBool (decide ((BitVec.ofNat 32 c).toInt ≤ (kb (place k)).toInt)) = 1#1 ↔ _
  rw [ofBool_one, toInt_small h]

theorem num_gt {c : ℕ} (h : c < 2 ^ 31) : num (gtMask kb (word c)) = reach (keyOf kb) (c + 1) := by
  unfold num reach keyOf
  refine congrArg Finset.card (filter_congr fun k _ => ?_)
  show BitVec.ofBool (decide ((BitVec.ofNat 32 c).toInt < (kb (place k)).toInt)) = 1#1 ↔ _
  rw [ofBool_one, toInt_small h]
  push_cast
  exact Iff.rfl

/-- The index array at a flat position. -/
theorem index_place (k : Fin 32768) : k0_pay69 (place k) = BitVec.ofNat 32 k.val := by
  have e : k0_pay69 (place k) = BitVec.ofNat 32 (k.val / 4096) * 4096#32 + BitVec.ofNat 32 (k.val % 4096) := by
    unfold k0_pay69 place
    pointwise
    rfl
  rw [e, show (4096#32) = BitVec.ofNat 32 4096 from rfl, ← BitVec.ofNat_mul, ← BitVec.ofNat_add, Nat.div_add_mod']

theorem eq_place {c : ℕ} (h : c < 2 ^ 31) (k : Fin 32768) : eqMask kb (word c) (place k) = 1#1 ↔ keyOf kb k = (c : ℤ) := by
  show IntOp.cmpi .eq (kb (place k)) (BitVec.ofNat 32 c) = 1#1 ↔ _
  rw [WordCmp.cmpi_eq_eq, ofBool_one, ← BitVec.toInt_inj, toInt_small h]
  exact Iff.rfl

theorem and_one (a b : BitVec 1) : a &&& b = 1#1 ↔ a = 1#1 ∧ b = 1#1 := by revert a b; decide
theorem or_one (a b : BitVec 1) : a ||| b = 1#1 ↔ a = 1#1 ∨ b = 1#1 := by revert a b; decide

theorem num_lt {c a : ℕ} (h : c < 2 ^ 31) (ha : a < 2 ^ 31) :
    num (andi (eqMask kb (word c)) (cmpi .slt k0_pay69 (broadcastTo S8x4096 (word a) broadcasts_S1x1_S8x4096))) =
      tied (keyOf kb) c a := by
  unfold num tied
  refine congrArg Finset.card (filter_congr fun k _ => ?_)
  show eqMask kb (word c) (place k) &&& BitVec.ofBool (decide ((k0_pay69 (place k)).toInt < (BitVec.ofNat 32 a).toInt)) = 1#1 ↔ _
  have hk := k.isLt
  rw [and_one, eq_place kb h, ofBool_one, index_place, toInt_small ha, toInt_small (by omega)]
  exact and_congr_right fun _ => Nat.cast_lt

/-! ## The threshold -/

/-- At least 64 patterns reach `c`. -/
def Reached (c : ℕ) : Prop := 64 ≤ reach (keyOf kb) c

instance : DecidablePred (Reached kb) := fun c => by unfold Reached; infer_instance

theorem reached_anti (c d : ℕ) (h : c ≤ d) (hd : Reached kb d) : Reached kb c := le_trans hd (reach_anti _ h)

theorem cntGe_oge {c : ℕ} (h : c < 2 ^ 31) :
    cmpf .oge (cntGe (F := Bits) kb (word c)) c64 = fun _ => BitVec.ofBool (decide (Reached kb c)) := by
  unfold cntGe
  rw [cnt_oge, num_ge kb h]
  exact funext fun _ => congrArg BitVec.ofBool (decide_eq_decide.2 Iff.rfl)

theorem ori_word {L t x : ℕ} (h : 2 ^ L ∣ t) (hx : x < 2 ^ L) (ht : t + 2 ^ L ≤ 2 ^ 31) (w : BitVec 32) (hw : w = BitVec.ofNat 32 x) :
    ori (word t) (broadcast S1x1 w) = word (t + x) := by
  obtain ⟨q, rfl⟩ := h
  funext _
  show BitVec.ofNat 32 (2 ^ L * q) ||| w = BitVec.ofNat 32 (2 ^ L * q + x)
  apply BitVec.eq_of_toNat_eq
  rw [hw, BitVec.toNat_or, BitVec.toNat_ofNat, BitVec.toNat_ofNat, BitVec.toNat_ofNat, Nat.mod_eq_of_lt (by omega),
    Nat.mod_eq_of_lt (by omega), Nat.mod_eq_of_lt (by omega), Nat.two_pow_add_eq_or_of_lt hx]

theorem radixStep_word {L t : ℕ} (h : Inv (Reached kb) 31 (L + 2) t) (b : BitVec 32) (h1 : b = BitVec.ofNat 32 (2 ^ L))
    (h2 : Scalar.addi b b = BitVec.ofNat 32 (2 * 2 ^ L)) (h3 : Scalar.ori (Scalar.addi b b) b = BitVec.ofNat 32 (3 * 2 ^ L)) :
    radixStep Bits kb b (word t) = word (pick (Reached kb) (2 ^ L) t) := by
  have e : 2 ^ (L + 2) = 4 * 2 ^ L := by rw [pow_add, Nat.mul_comm]; rfl
  have hp : 0 < 2 ^ L := Nat.two_pow_pos L
  have hle := h.le
  have l := e ▸ h.le
  unfold radixStep
  rw [ori_word h.dvd (by omega) hle _ h1, ori_word h.dvd (by omega) hle _ h2, ori_word h.dvd (by omega) hle _ h3,
    cntGe_oge kb (by omega), cntGe_oge kb (by omega), cntGe_oge kb (by omega), sel_const, sel_const, sel_const]
  rfl

theorem radixBit_eq : ∀ k : Fin k0_t2_loop.trips, radixBit k = BitVec.ofNat 32 (2 ^ (29 - 2 * k.val)) ∧
    Scalar.addi (radixBit k) (radixBit k) = BitVec.ofNat 32 (2 * 2 ^ (29 - 2 * k.val)) ∧
    Scalar.ori (Scalar.addi (radixBit k) (radixBit k)) (radixBit k) = BitVec.ofNat 32 (3 * 2 ^ (29 - 2 * k.val)) := by
  decide +kernel

theorem trips15 : k0_t2_loop.trips = 15 := by decide +kernel

/-- The threshold that the first search finds. -/
theorem threshold_word : ∃ t : ℕ, threshold Bits kb = word t ∧ t < 2 ^ 31 ∧ (t = 0 ∨ Reached kb t) ∧ ¬ Reached kb (t + 1) := by
  have hr : ∃ t, radix Bits kb = word t ∧ Inv (Reached kb) 31 1 t := by
    have := fold_rec (n := k0_t2_loop.trips) (fun k acc => radixStep Bits kb (radixBit k) acc)
      (fun k acc => ∃ t, acc = word t ∧ Inv (Reached kb) 31 (31 - 2 * k) t) k0_pay62 ?_ ?_
    · obtain ⟨t, h1, h2⟩ := this
      exact ⟨t, h1, by rwa [trips15] at h2⟩
    · refine ⟨0, rfl, dvd_zero _, by simp, .inl rfl, ?_⟩
      unfold Reached reach
      rw [card_eq_zero.2]
      · decide
      · refine filter_eq_empty_iff.2 fun q _ => ?_
        have := (BitVec.toInt_lt (x := kb (place q)))
        unfold keyOf
        push_cast
        simp only [Nat.reduceSub] at this
        omega
    · rintro k _ ⟨t, rfl, ht⟩
      have hk : k.val < 15 := trips15 ▸ k.isLt
      have el : 31 - 2 * k.val = (29 - 2 * k.val) + 2 := by omega
      rw [el] at ht
      obtain ⟨h1, h2, h3⟩ := radixBit_eq k
      refine ⟨_, radixStep_word kb ht _ h1 h2 h3, ?_⟩
      rw [show 31 - 2 * (k.val + 1) = 29 - 2 * k.val by omega]
      exact ht.step (reached_anti kb)
  obtain ⟨t, ht, hi⟩ := hr
  have hl := hi.last
  have hle := hi.le
  refine ⟨_, ?_, ?_, hl.pass, hl.stop⟩
  · unfold threshold
    rw [ht, ori_word (x := 1) hi.dvd (by decide) hi.le _ rfl, cntGe_oge kb (by omega), sel_const]
  · have := hl.le
    omega

/-! ## The tie -/

/-- `a` is a position with fewer than `e` tied positions before it. -/
def Fits (t e a : ℕ) : Prop := a < 32768 ∧ tied (keyOf kb) t a < e

instance (t e : ℕ) : DecidablePred (Fits kb t e) := fun c => by unfold Fits; infer_instance

theorem fits_anti (t e c d : ℕ) (h : c ≤ d) (hd : Fits kb t e d) : Fits kb t e c :=
  ⟨lt_of_le_of_lt h hd.1, lt_of_le_of_lt (tied_mono _ _ h) hd.2⟩

theorem cntLt_olt {t e a : ℕ} (ht : t < 2 ^ 31) (he : e < 2 ^ 24) (ha : a < 32768) :
    cmpf .olt (cntLt (F := Bits) (eqMask kb (word t)) (word a)) (fun _ => f32OfNat e) = fun _ => BitVec.ofBool (decide (Fits kb t e a)) := by
  unfold cntLt
  rw [cnt_olt _ _ he, num_lt kb ht (by omega)]
  funext _
  exact congrArg BitVec.ofBool (decide_eq_decide.2 ⟨fun h => ⟨ha, h⟩, fun h => h.2⟩)

theorem addi_word (a x : ℕ) (w : BitVec 32) (hw : w = BitVec.ofNat 32 x) : addi (word a) (broadcast S1x1 w) = word (a + x) := by
  subst hw
  funext _
  exact (BitVec.ofNat_add a x).symm

theorem tieStep_word {L t e a : ℕ} (ht : t < 2 ^ 31) (he : e < 2 ^ 24) (h : Inv (Fits kb t e) 15 (L + 2) a) (b : BitVec 32)
    (h1 : b = BitVec.ofNat 32 (2 ^ L)) :
    tieStep (eqMask kb (word t)) (fun _ => f32OfNat e) b (word a) = word (pick (Fits kb t e) (2 ^ L) a) := by
  have e' : 2 ^ (L + 2) = 4 * 2 ^ L := by rw [pow_add, Nat.mul_comm]; rfl
  have hp : 0 < 2 ^ L := Nat.two_pow_pos L
  have l := e' ▸ h.le
  have h2 : Scalar.addi b b = BitVec.ofNat 32 (2 * 2 ^ L) := by
    subst h1
    rw [two_mul, BitVec.ofNat_add]
    rfl
  have c1 : cand1 b (word a) = word (a + 2 ^ L) := addi_word _ _ _ h1
  have c2 : cand2 b (word a) = word (a + 2 * 2 ^ L) := addi_word _ _ _ h2
  have c3 : cand3 b (word a) = word (a + 3 * 2 ^ L) := by
    unfold cand3
    rw [c2, addi_word _ _ _ h1]
    exact congrArg word (by omega)
  unfold tieStep
  rw [c1, c2, c3, cntLt_olt kb ht he (by omega), cntLt_olt kb ht he (by omega), cntLt_olt kb ht he (by omega),
    sel_const, sel_const, sel_const]
  rfl

theorem tie_inv {t e : ℕ} (ht : t < 2 ^ 31) (he : e < 2 ^ 24) :
    ∃ a : ℕ, tie (F := Bits) (eqMask kb (word t)) (fun _ => f32OfNat e) = word a ∧ Inv (Fits kb t e) 15 0 a := by
  have i0 : Inv (Fits kb t e) 15 15 0 := ⟨dvd_zero _, by simp, .inl rfl, fun h => by have := h.1; omega⟩
  have hA := fits_anti kb t e
  have i1 : Inv (Fits kb t e) 15 13 _ := i0.step hA
  have i2 : Inv (Fits kb t e) 15 11 _ := i1.step hA
  have i3 : Inv (Fits kb t e) 15 9 _ := i2.step hA
  have i4 : Inv (Fits kb t e) 15 7 _ := i3.step hA
  have i5 : Inv (Fits kb t e) 15 5 _ := i4.step hA
  have i6 : Inv (Fits kb t e) 15 3 _ := i5.step hA
  have i7 : Inv (Fits kb t e) 15 1 _ := i6.step hA
  have hle := i7.le
  refine ⟨_, ?_, i7.last⟩
  unfold tie
  rw [show k0_pay9 = word 0 from rfl, tieStep_word kb ht he i0 _ (by decide), tieStep_word kb ht he i1 _ (by decide),
    tieStep_word kb ht he i2 _ (by decide), tieStep_word kb ht he i3 _ (by decide), tieStep_word kb ht he i4 _ (by decide),
    tieStep_word kb ht he i5 _ (by decide), tieStep_word kb ht he i6 _ (by decide)]
  unfold tieLast
  rw [addi_word _ 1 _ rfl, cntLt_olt kb ht he (by omega), sel_const]

/-- The position that the second search finds. -/
theorem tie_word {t e : ℕ} (ht : t < 2 ^ 31) (he : e < 2 ^ 24) (h0 : 0 < e) :
    ∃ a : ℕ, tie (F := Bits) (eqMask kb (word t)) (fun _ => f32OfNat e) = word a ∧ a < 2 ^ 31 ∧
      ∀ k : ℕ, k < 32768 → (k ≤ a ↔ tied (keyOf kb) t k < e) := by
  obtain ⟨a, h, i⟩ := tie_inv kb ht he
  have hs := i.stop
  have hle := i.le
  refine ⟨a, h, by omega, fun k hk => ⟨fun hka => ?_, fun hf => ?_⟩⟩
  · rcases i.pass with rfl | hp
    · have : tied (keyOf kb) t k = 0 := by
        rw [Nat.le_zero.1 hka]
        unfold tied
        simp
      omega
    · exact (fits_anti kb t e _ _ hka hp).2
  · by_contra hka
    exact hs (fits_anti kb t e _ k (by simp only [pow_zero]; omega) ⟨hk, hf⟩)

end Cert.Kernel.Hand

end
-- ==== Proof.KernelSelect.lean ====
module

public import proofs.«01_k».proof.Proof.Search

/-!
# What the kernel selects

The kernel's row of selected values holds (1 - khot) + khot at the positions whose weight has a clear sign bit and
whose rank among the weights' patterns, read as signed words, is below 64, and zero elsewhere. The branch that
searches for the last tied position is taken when more than 64 patterns reach the threshold; when it is not, every
tied position is selected.
-/

@[expose] public section

noncomputable section

namespace Cert.Kernel.Hand

open Idealize.ShloMosaic Idealize.ShloMosaic.Bits Cert.Kernel.Gen Cert.Rank Finset

/-- The least of a one-entry array, from +∞. -/
theorem least_one (n : ℕ) (hn : n ≤ 2 ^ 24) (j : S1.Idx) :
    multiReduction (F := Bits) .minimumf [1, 2] S1 (fun _ : S1x1x1.Idx => f32OfNat n) 0x7F800000#32 reduces_S1x1x1_S1 (.inl rfl) rfl j =
      f32OfNat n := by
  have hu : (List.finRange S1x1x1.numel).filter (fun n => decide (reduces_S1x1x1_S1.drop (S1x1x1.rowMajor.symm n) = j)) = [⟨0, by decide⟩] := by
    rw [List.filter_eq_self.2]
    · rfl
    · intro n _
      rw [decide_eq_true_eq]
      funext a
      match a with
      | ⟨0, _⟩ => exact Subsingleton.elim (α := Fin 1) _ _
  show ((List.finRange S1x1x1.numel).filter (fun n => decide (reduces_S1x1x1_S1.drop (S1x1x1.rowMajor.symm n) = j))).foldl
    (fun r _ => FloatOps.minimumf (F := Bits) (φ := .f32) r (f32OfNat n)) (0x7F800000#32 : Bits .f32) = _
  rw [hu]
  exact minf32_positiveInfinity_nat hn

variable (kb : IVec S8x4096 32)

/-- The branch is taken when more than 64 patterns reach the threshold. -/
theorem searches_iff {t : ℕ} (ht : t < 2 ^ 31) : searches Bits kb (word t) = 1#1 ↔ 64 < reach (keyOf kb) t := by
  have hN := num_ge kb ht
  have hle : reach (keyOf kb) t < 2 ^ 24 := hN ▸ lt_of_le_of_lt (num_le _) (by decide)
  generalize reach (keyOf kb) t = N at hN hle ⊢
  have e : k0_pay70 (F := Bits) kb (word t) = f32OfNat (if 64 < N then 1 else 0) := by
    have e1 : select (cmpf .ogt (cntF (F := Bits) (cmpi .sge kb (broadcastTo S8x4096 (word t) broadcasts_S1x1_S8x4096))) c64)
        (broadcast S1x1 (Scalar.ofBits .f32 0x3F800000#32)) (broadcast S1x1 (Scalar.ofBits .f32 0x00000000#32)) =
          fun _ => f32OfNat (if 64 < N then 1 else 0) := by
      rw [cntF_eq, c64_eq, hN, one_eq, zero_eq]
      funext z
      have hc : cmpf (F := Bits) (φ := .f32) .ogt (fun _ : S1x1.Idx => f32OfNat N) (fun _ => f32OfNat 64) z = BitVec.ofBool (decide (64 < N)) :=
        cmpf32_ogt_nat hle (by decide)
      show (if cmpf (F := Bits) (φ := .f32) .ogt (fun _ : S1x1.Idx => f32OfNat N) (fun _ => f32OfNat 64) z = 1#1 then
        (f32OfNat 1 : Bits .f32) else f32OfNat 0) = _
      rw [hc]
      by_cases h : 64 < N
      · rw [if_pos h, if_pos (by rw [ofBool_one]; exact h)]
      · rw [if_neg h, if_neg (by rw [ofBool_one]; exact h)]
    have e2 : k0_pay70 (F := Bits) kb (word t) = extractAt ![0, 0, 0] (shapeCast S1x1x1
        (multiReduction .minimumf [1, 2] S1 (shapeCast S1x1x1
          (select (cmpf .ogt (cntF (F := Bits) (cmpi .sge kb (broadcastTo S8x4096 (word t) broadcasts_S1x1_S8x4096))) c64)
            (broadcast S1x1 (Scalar.ofBits .f32 0x3F800000#32)) (broadcast S1x1 (Scalar.ofBits .f32 0x00000000#32)))
          shapeCasts_S1x1_S1x1x1) 0x7F800000#32 reduces_S1x1x1_S1 (.inl rfl) rfl) shapeCasts_S1_S1x1x1) inpos_S1x1x1_p0_0_0 := rfl
    rw [e2, e1]
    exact least_one _ (by split <;> decide) _
  unfold searches
  rw [e, zero_eq]
  have hc : Scalar.cmpf (F := Bits) (φ := .f32) .ogt (f32OfNat (if 64 < N then 1 else 0)) (f32OfNat 0) = BitVec.ofBool (decide (0 < if 64 < N then 1 else 0)) :=
    cmpf32_ogt_nat (by split <;> decide) (by decide)
  rw [hc]
  by_cases h : 64 < N
  · rw [if_pos h]
    exact iff_of_true (by decide) h
  · rw [if_neg h]
    exact iff_of_false (by decide) h

/-- What the two searches select. -/
theorem mask_iff (k : Fin 32768) :
    (gtMask kb (threshold Bits kb) (place k) = 1#1 ∨
      (eqMask kb (threshold Bits kb) (place k) = 1#1 ∧
        IntOp.cmpi .sle (k0_pay69 (place k)) (broadcastTo S8x4096 (lastTied Bits kb (threshold Bits kb)) broadcasts_S1x1_S8x4096 (place k)) = 1#1)) ↔
      (0 ≤ keyOf kb k ∧ rank (keyOf kb) k < 64) := by
  obtain ⟨t, ht, hlt, h1, h2⟩ := threshold_word kb
  rw [ht, selected_iff (keyOf kb) 64 t h1 (not_le.1 h2) k, eq_place kb hlt]
  have hg : gtMask kb (word t) (place k) = 1#1 ↔ (t : ℤ) < keyOf kb k := by
    show BitVec.ofBool (decide ((BitVec.ofNat 32 t).toInt < (kb (place k)).toInt)) = 1#1 ↔ _
    rw [ofBool_one, toInt_small hlt]
    exact Iff.rfl
  rw [hg]
  refine or_congr_right (and_congr_right fun hk => ?_)
  have hm : reach (keyOf kb) (t + 1) < 64 := not_le.1 h2
  have hkl := k.isLt
  have main : ∀ a : ℕ, a < 2 ^ 31 → (IntOp.cmpi .sle (k0_pay69 (place k)) (broadcastTo S8x4096 (word a) broadcasts_S1x1_S8x4096 (place k)) = 1#1 ↔
      k.val ≤ a) := fun a ha => by
    rw [index_place]
    show BitVec.ofBool (decide ((BitVec.ofNat 32 k.val).toInt ≤ (BitVec.ofNat 32 a).toInt)) = 1#1 ↔ _
    rw [ofBool_one, toInt_small ha, toInt_small (by omega)]
    exact Nat.cast_le
  by_cases hs : 64 < reach (keyOf kb) t
  · have hl : lastTied Bits kb (word t) = tie (F := Bits) (eqMask kb (word t)) (places (gtMask kb (word t))) :=
      if_pos ((searches_iff kb hlt).2 hs)
    have hn := num_gt kb hlt
    obtain ⟨a, e, ha, hi⟩ := tie_word kb (e := 64 - reach (keyOf kb) (t + 1)) hlt (by omega) (by omega)
    rw [hl, places_eq _ (by omega), hn, e, main a ha, hi k.val hkl]
    omega
  · have hl : lastTied Bits kb (word t) = word 32768 := if_neg fun h => hs ((searches_iff kb hlt).1 h)
    rw [hl, main _ (by decide)]
    have := tied_lt (keyOf kb) t k hk
    omega

/-- The row of selected values. -/
theorem pertOf_place (kh : FVec Bits S8x4096 .f32) (k : Fin 32768) :
    pertOf kh (place k) = if 0 ≤ keyOf (bitcastToInt kh) k ∧ rank (keyOf (bitcastToInt kh)) k < 64 then
      FloatOps.addf (FloatOps.subf (Scalar.ofBits .f32 0x3F800000#32) (kh (place k))) (kh (place k)) else Scalar.ofBits .f32 0x00000000#32 := by
  rw [← if_congr (mask_iff (bitcastToInt kh) k) rfl rfl]
  unfold pertOf k0_pay73
  show (if gtMask (bitcastToInt kh) (threshold Bits (bitcastToInt kh)) (place k) ||| (eqMask (bitcastToInt kh) (threshold Bits (bitcastToInt kh)) (place k) &&& _) = 1#1 then _ else _) = _
  refine if_congr ?_ rfl rfl
  rw [or_one, and_one]
  exact Iff.rfl

end Cert.Kernel.Hand

end
-- ==== Proof.TopK.lean ====
module

public import proofs.«01_k».proof.Proof.Rank
public import Idealize.ShloMosaic.Lib.PointwiseCore
public import Idealize.ShloMosaic.Lib.Routing.OpsPair
public import Idealize.ShloMosaic.Lib.Routing.OpsSet
public import Idealize.ShloMosaic.Lib.StableHlo.Predicate

/-!
# Marking the greatest entries of a row

A host program marks the `m` greatest entries of a row by `top_k` and a scatter of ones. Here are the index words
that `top_k` returns, the entries that such a scatter sets, and the two together: the entries of rank below `m`.
-/

@[expose] public section

namespace Cert.Top

open Idealize.ShloMosaic Cert.Rank Finset

/-- The index words that `top_k` returns are the positions in the order of the stable sort. -/
theorem topK_index {α : Type} {n m : ℕ} (gt : α → α → BitVec 1) (x : (⟨1, ![n]⟩ : Shape).Idx → α) (key : Fin n → ℤ)
    (hgt : ∀ a b : Fin n, gt (x (ix1 a)) (x (ix1 b)) = BitVec.ofBool (decide (key b < key a)))
    (h : (⟨1, ![n]⟩ : Shape).Slices (fun _ => 0) ⟨1, ![m]⟩) (i : Fin m) (hi : i.val < n) :
    (Host.topK ⟨1, ![m]⟩ 0 gt x h).2 (ix1 i) = BitVec.ofNat 32 (sortedFrom (fun a b => decide (key b < key a)) ⟨i.val, hi⟩).val := by
  have e : ∀ (j : (⟨1, ![n]⟩ : Shape).Idx) (k : Fin n), Shape.Idx.along j 0 k = ix1 k := fun j k => by
    funext a
    match a with
    | ⟨0, _⟩ => exact Function.update_self _ _ _
  have hs : (fun a b : Fin n => decide (key b < key a)) = fun a b => gt (x (ix1 a)) (x (ix1 b)) == 1#1 := by
    funext a b
    rw [hgt]
    by_cases hc : key b < key a <;> simp [hc]
  rw [hs]
  have hj : (fun a : Fin 1 => ⟨(fun _ : Fin 1 => 0) a + ((ix1 i : (⟨1, ![m]⟩ : Shape).Idx) (a.cast rfl)).val, by
      match a with
      | ⟨0, _⟩ => show 0 + i.val < n; omega⟩ : (⟨1, ![n]⟩ : Shape).Idx) = ix1 ⟨i.val, hi⟩ := by
    funext a
    match a with
    | ⟨0, _⟩ => exact Fin.ext (Nat.zero_add _)
  unfold Host.topK
  dsimp only
  unfold extractStridedSlice
  refine (congrArg (Host.sort2 ⟨1, ![n]⟩ 0 (fun l r => gt l.1 r.1) x _).2 hj).trans ?_
  unfold Host.sort2
  simp only [Nat.lt_succ_self, dif_pos]
  have key2 : ∀ al : Fin n → (⟨1, ![n]⟩ : Shape).Idx, al = ix1 →
      iotaInDim ⟨1, ![n]⟩ 32 0 (al (sortedFrom (fun k k' => gt (x (al k)) (x (al k')) == 1#1) ⟨i.val, hi⟩)) =
        BitVec.ofNat 32 (sortedFrom (fun a b => gt (x (ix1 a)) (x (ix1 b)) == 1#1) ⟨i.val, hi⟩).val := by
    rintro _ rfl
    rfl
  exact key2 (fun k => Shape.Idx.along (ix1 ⟨i.val, hi⟩) 0 k) (funext (e _))

/-- Where an update of a scatter of scalars into a row lands. -/
theorem lands {N K : ℕ} (d : ScatterDims ⟨1, ![N]⟩ ⟨2, ![K, 1]⟩ ⟨1, ![K]⟩) (hiw : d.insertedWindowDims = [0])
    (hsd : d.scatterDimsToOperandDims = [0]) (hivd : d.indexVectorDim = 1) (idx : IVec ⟨2, ![K, 1]⟩ 32) (i : Fin K) (x : Fin N) :
    d.resultIdx? (ix1 i) idx = some (ix1 x) ↔ (idx (ix2 i 0)).toInt = (x.val : ℤ) := by
  have hm : (0 : Fin 1) ∈ d.scatterDimsToOperandDims := by rw [hsd]; exact List.mem_singleton.2 rfl
  have hw : d.window (ix1 i) 0 = 0 := by
    unfold ScatterDims.window
    rw [dif_neg fun h => (of_decide_eq_true (List.mem_filter.1 h).2) (by rw [hiw]; exact List.mem_singleton.2 rfl)]
  have hi : d.siIdx (ix1 i) ⟨d.scatterDimsToOperandDims.idxOf 0, List.idxOf_lt_length_iff.2 hm⟩ = ix2 i 0 := by
    funext b
    apply Fin.ext
    match b with
    | ⟨0, _⟩ =>
      unfold ScatterDims.siIdx
      rw [dif_neg (by rw [hivd]; exact Nat.zero_ne_one)]
      unfold ScatterDims.siCoord
      simp only [Fin.val_cast]
      have e : ∀ X : Fin 1, ((ix1 i : (⟨1, ![K]⟩ : Shape).Idx) X).val = i.val := fun X => by
        obtain rfl : X = 0 := Subsingleton.elim _ _
        rfl
      exact e _
    | ⟨1, _⟩ =>
      unfold ScatterDims.siIdx
      rw [dif_pos (by rw [hivd])]
      show List.idxOf (0 : Fin 1) d.scatterDimsToOperandDims = 0
      rw [hsd]
      rfl
  have hs : d.start (ix1 i) idx 0 = (idx (ix2 i 0)).toInt := by
    unfold ScatterDims.start
    rw [dif_pos hm, hi]
  have hx : (ix1 x : (⟨1, ![N]⟩ : Shape).Idx) = ValueIdx.ix1 x := by
    funext a
    match a with
    | ⟨0, _⟩ => rfl
  rw [hx, Routing.resultIdx?_ix1, hs, hw]
  omega

/-- A scatter of one value into a row of another. -/
theorem scatter_const {α : Type} {N K : ℕ} (d : ScatterDims ⟨1, ![N]⟩ ⟨2, ![K, 1]⟩ ⟨1, ![K]⟩) (hiw : d.insertedWindowDims = [0])
    (hsd : d.scatterDimsToOperandDims = [0]) (hivd : d.indexVectorDim = 1) (idx : IVec ⟨2, ![K, 1]⟩ 32) (z o : α) (x : Fin N)
    (P : Prop) [Decidable P] (hP : (∃ i : Fin K, (idx (ix2 i 0)).toInt = (x.val : ℤ)) ↔ P) :
    Host.scatter d (fun _ b => b) (fun _ => z) idx (fun _ => o) (ix1 x) = if P then o else z := by
  by_cases h : P
  · obtain ⟨i, hi⟩ := hP.2 h
    rw [if_pos h]
    exact Routing.scatter_set_hit d _ idx _ _ _ (fun _ _ => rfl) (ix1 i) ((lands d hiw hsd hivd idx i x).2 hi)
  · rw [if_neg h]
    refine Routing.scatter_set_miss d _ idx _ _ fun k hk => h (hP.1 ⟨k 0, ?_⟩)
    have : k = ix1 (k 0) := by
      funext a
      match a with
      | ⟨0, _⟩ => rfl
    rw [this] at hk
    exact (lands d hiw hsd hivd idx (k 0) x).1 hk

/-- An index word as a host program wraps it: a nonnegative one is left as it is. -/
theorem wrap_toInt (p : ℕ) (hp : p < 2 ^ 31) (w : BitVec 32) :
    (Scalar.select (IntOp.cmpi .slt (BitVec.ofNat 32 p) 0#32) w (BitVec.ofNat 32 p)).toInt = (p : ℤ) := by
  have e : (BitVec.ofNat 32 p).toInt = (p : ℤ) := StableHlo.Predicate.toInt_ofNat_small _ hp
  have h0 : IntOp.cmpi .slt (BitVec.ofNat 32 p) 0#32 = 0#1 := by
    show BitVec.ofBool (decide ((BitVec.ofNat 32 p).toInt < (0#32).toInt)) = 0#1
    rw [e, decide_eq_false (by simp)]
    rfl
  rw [h0]
  exact e

/-- The scatter of one value at the index words of the `K` greatest entries sets the entries of rank below `K`. -/
theorem mark_top {α : Type} {n N K : ℕ} (key : Fin n → ℤ) (hK : K ≤ n) (hN : N ≤ n)
    (d : ScatterDims ⟨1, ![N]⟩ ⟨2, ![K, 1]⟩ ⟨1, ![K]⟩) (hiw : d.insertedWindowDims = [0])
    (hsd : d.scatterDimsToOperandDims = [0]) (hivd : d.indexVectorDim = 1) (idx : IVec ⟨2, ![K, 1]⟩ 32)
    (hidx : ∀ i : Fin K, (idx (ix2 i 0)).toInt = ((sortedFrom (fun a b => decide (key b < key a)) ⟨i.val, i.isLt.trans_le hK⟩).val : ℤ))
    (z o : α) (x : Fin N) :
    Host.scatter d (fun _ b => b) (fun _ => z) idx (fun _ => o) (ix1 x) = if rank key (x.castLE hN) < K then o else z := by
  refine scatter_const d hiw hsd hivd idx z o x _ ?_
  rw [← sorted_iff]
  constructor
  · rintro ⟨i, hi⟩
    rw [hidx] at hi
    exact ⟨⟨i.val, i.isLt.trans_le hK⟩, i.isLt, Fin.ext (Nat.cast_inj.1 hi)⟩
  · rintro ⟨i, hi, he⟩
    refine ⟨⟨i.val, hi⟩, ?_⟩
    rw [hidx, show (⟨(⟨i.val, hi⟩ : Fin K).val, hi.trans_le hK⟩ : Fin n) = i from rfl, he]
    rfl

end Cert.Top

end
-- ==== Proof.RoundedSelect.lean ====
module

public import proofs.«01_k».proof.Proof.RoundedValue
public import proofs.«01_k».proof.Proof.TopK
public import Idealize.ShloMosaic.Lib.SortKey
public import Idealize.ShloMosaic.Lib.NatWordsOrder
public import Idealize.ShloMosaic.Lib.Pointwise.Reshape

/-!
# What the rounded program selects

The rounded program takes the 64 greatest of the weights and 64 zeros after them, by the total order of the
patterns. A weight whose sign bit is set comes after every zero and is not selected. The others are selected when
their rank among the weights is below 64.
-/

@[expose] public section

noncomputable section

namespace Cert.Rounded.Hand

open Idealize.ShloMosaic Cert.Rounded.Gen Cert.Rank Cert.Top

section
variable {F : FTy → Type} [FloatOps F]

/-- The weights and the zeros after them. -/
def padded (kh : FVec F S32768 .f32) : FVec F S32832 .f32 :=
  concatenate S32832 0 [⟨S32768, kh⟩, ⟨S64, broadcastInDim S64 ![] bcast_S_S64 (constant S_ .f32 0x00000000#32)⟩]
      concatenates_S32768_S64_S32832_d0

theorem padded_low (kh : FVec F S32768 .f32) (a : Fin 32832) (h : a.val < 32768) : padded kh (ix1 a) = kh (ix1 ⟨a.val, h⟩) := by
  unfold padded
  pointwise
  exact dif_pos h

theorem padded_high (kh : FVec F S32768 .f32) (a : Fin 32832) (h : ¬ a.val < 32768) : padded kh (ix1 a) = FloatOps.ofBits .f32 0x00000000#32 := by
  unfold padded
  pointwise
  exact dif_neg h

/-- The entries marked, by integer keys that order the weights and the zeros after them. -/
theorem marks_apply (kh : FVec F S32768 .f32) (key : Fin 32832 → ℤ)
    (hgt : ∀ a b : Fin 32832, FloatOps.cmpfTotal .gt (padded kh (ix1 a)) (padded kh (ix1 b)) = BitVec.ofBool (decide (key b < key a))) (k : Fin 32768) :
    marks (F := F) (picks kh) (ix1 k) =
      if rank key (k.castLE (by decide)) < 64 then FloatOps.ofBits .f32 0x3F800000#32 else FloatOps.ofBits .f32 0x00000000#32 := by
  refine mark_top key (by decide) (by decide) _ rfl rfl rfl _ (fun i => ?_) _ _ k
  have hb : (sortedFrom (fun a b => decide (key b < key a)) ⟨i.val, i.isLt.trans_le (by decide)⟩).val < 2 ^ 31 :=
    lt_trans (Fin.isLt _) (by decide)
  have ht := topK_index (m := 64) (FloatOps.cmpfTotal .gt) (padded kh) key hgt sliceFits_S32832_S64 i (i.isLt.trans_le (by decide))
  have hp : picks kh (ix1 i) = _ := ht
  rw [← wrap_toInt _ hb (picks kh (ix1 i) + 32768#32), ← hp]
  pointwise
  rfl
end

/-- The signed word of the weight's pattern at a position. -/
def keyOf (kh : FVec Bits S32768 .f32) (k : Fin 32768) : ℤ := BitVec.toInt (kh (ix1 k) : BitVec 32)

/-- The key by which the total order compares the weights. -/
def sortKey (kh : FVec Bits S32768 .f32) (k : Fin 32768) : ℤ := (sortableKey (kh (ix1 k))).toInt

theorem sortableKey_nonneg (w : BitVec 32) (h : 0 ≤ w.toInt) : sortableKey w = w :=
  sortableKey_of_msb_false w (by
    rw [BitVec.msb_eq_toInt]
    exact decide_eq_false (not_lt.2 h))

theorem sortableKey_neg (w : BitVec 32) (h : w.toInt < 0) : (sortableKey w).toInt < 0 := by
  have hm : w.msb = true := by rw [BitVec.msb_eq_toInt]; exact decide_eq_true h
  have : (sortableKey w).msb = true := by
    unfold sortableKey
    rw [BitVec.msb_xor, BitVec.msb_and, hm]
    simp only [BitVec.msb_sshiftRight, hm]
    decide
  rw [BitVec.msb_eq_toInt] at this
  exact of_decide_eq_true this

/-- The entries marked, at the patterns. -/
theorem marks_bits (kh : FVec Bits S32768 .f32) (k : Fin 32768) :
    marks (F := Bits) (picks kh) (ix1 k) =
      if 0 ≤ keyOf kh k ∧ rank (keyOf kh) k < 64 then FloatOps.ofBits .f32 0x3F800000#32 else FloatOps.ofBits .f32 0x00000000#32 := by
  have hlow : ∀ k : Fin 32768, (sortableKey (padded kh (ix1 (k.castLE (by decide))))).toInt = sortKey kh k := fun k => by
    rw [padded_low kh _ k.isLt]
    rfl
  have hhigh : ∀ i : Fin 32832, 32768 ≤ i.val → (sortableKey (padded kh (ix1 i))).toInt = 0 := fun i hi => by
    rw [padded_high kh i (not_lt.2 hi)]
    decide
  rw [marks_apply kh (fun a => (sortableKey (padded kh (ix1 a))).toInt) (fun a b => by rw [cmpfTotal_f32_eq_cmpi_sortableKey]; rfl) k]
  refine if_congr ?_ rfl rfl
  rw [rank_padded (n := 32768) (p := 64) (by decide) (by decide) (sortKey kh) _ hlow hhigh k]
  refine selected_congr (keyOf kh) (sortKey kh) 64 (fun q hq => ?_) (fun q hq => sortableKey_neg _ hq) k
  show (sortableKey (kh (ix1 q))).toInt = _
  rw [sortableKey_nonneg _ hq]
  rfl

/-- The row of selected values, at the patterns. -/
theorem values_bits (kh : FVec Bits S32768 .f32) (k : Fin 32768) :
    values kh (ix1 k) = if 0 ≤ keyOf kh k ∧ rank (keyOf kh) k < 64 then
      FloatOps.addf (FloatOps.subf (FloatOps.ofBits .f32 0x3F800000#32) (kh (ix1 k))) (kh (ix1 k)) else FloatOps.ofBits .f32 0x00000000#32 := by
  have h1 : FloatOps.cmpf (F := Bits) (φ := .f32) .ogt (FloatOps.ofBits .f32 0x3F800000#32) (FloatOps.ofBits .f32 0x00000000#32) = 1#1 := by
    rw [show (FloatOps.ofBits .f32 0x3F800000#32 : Bits .f32) = Bits.f32OfNat 1 by rw [Bits.f32OfNat_eq 1 (by decide)]; decide +kernel,
      show (FloatOps.ofBits .f32 0x00000000#32 : Bits .f32) = Bits.f32OfNat 0 by rw [Bits.f32OfNat_eq 0 (by decide)]; decide +kernel]
    exact Bits.cmpf32_ogt_nat (by decide) (by decide)
  have h0 : FloatOps.cmpf (F := Bits) (φ := .f32) .ogt (FloatOps.ofBits .f32 0x00000000#32) (FloatOps.ofBits .f32 0x00000000#32) = 0#1 := by
    rw [show (FloatOps.ofBits .f32 0x00000000#32 : Bits .f32) = Bits.f32OfNat 0 by rw [Bits.f32OfNat_eq 0 (by decide)]; decide +kernel]
    exact Bits.cmpf32_ogt_nat (by decide) (by decide)
  show (if FloatOps.cmpf .ogt (marks (F := Bits) (picks kh) (ix1 k)) (FloatOps.ofBits .f32 0x00000000#32) = 1#1 then
    FloatOps.addf (FloatOps.subf (FloatOps.ofBits .f32 0x3F800000#32) (kh (ix1 k))) (kh (ix1 k)) else FloatOps.ofBits .f32 0x00000000#32) = _
  rw [marks_bits]
  by_cases h : 0 ≤ keyOf kh k ∧ rank (keyOf kh) k < 64
  · rw [if_pos h, if_pos h, if_pos h1]
  · rw [if_neg h, if_neg h, h0]
    rfl

end Cert.Rounded.Hand

end
-- ==== Proof.Bitexact.lean ====
module

public import proofs.«01_k».proof.Proof.KernelSelect
public import proofs.«01_k».proof.Proof.RoundedSelect
public import proofs.«01_k».proof.Defs

/-!
# The kernel computes the rounded program, bit for bit

The two relaxations are the same text. The two selections are the positions of clear sign bit and rank below 64.
-/

@[expose] public section

noncomputable section

namespace Cert.Bitexact

open Idealize.ShloMosaic Idealize.SL.Sem

/-- The relaxations are the same. -/
theorem rounds_eq (lg : FVec Bits ⟨2, ![8, 4096]⟩ .f32) : Cert.Kernel.Hand.rounds (F := Bits) lg = Cert.Rounded.Hand.rounds lg := rfl

/-- The weights at a position. -/
theorem counts_apply (l : FVec Bits ⟨1, ![32768]⟩ .f32) (k : Fin 32768) :
    Cert.Rounded.Hand.counts l (ix1 k) = Cert.Kernel.Hand.khotOf (F := Bits) (Cert.Kernel.Hand.tile l) (Cert.Kernel.Hand.place k) := by
  have e : Cert.Rounded.Hand.counts l (ix1 k) = (Cert.Rounded.Hand.rounds (Cert.Rounded.Hand.tile l)).2 (Cert.Kernel.Hand.place k) := by
    unfold Cert.Rounded.Hand.counts Cert.Kernel.Hand.place
    pointwise
  rw [e, ← rounds_eq]
  rfl

/-- The rows of selected values are the same. -/
theorem row_eq (l : FVec Bits ⟨1, ![32768]⟩ .f32) (k : Fin 32768) :
    Cert.Kernel.Hand.pert (F := Bits) (Cert.Kernel.Hand.tile l) (Cert.Kernel.Hand.place k) =
      Cert.Rounded.Hand.values (Cert.Rounded.Hand.counts l) (ix1 k) := by
  have hk : Cert.Rounded.Hand.keyOf (Cert.Rounded.Hand.counts l) =
      Cert.Kernel.Hand.keyOf (bitcastToInt (Cert.Kernel.Hand.khotOf (F := Bits) (Cert.Kernel.Hand.tile l))) := by
    funext q
    unfold Cert.Rounded.Hand.keyOf
    rw [counts_apply]
    rfl
  unfold Cert.Kernel.Hand.pert
  rw [Cert.Rounded.Hand.values_bits, Cert.Kernel.Hand.pertOf_place, hk, counts_apply]

theorem bitexact : Cert.bitexact_Kernel_Rounded := by
  intro m g m' g' _ hagree
  refine ⟨fun c => Cert.Kernel.Hand.mix (F := Bits) (m ((c.tc : Thread Cert.Kernel.nD Cert.Kernel.τ).loc Cert.Kernel.main_arg0))
      (fun k => m ((c.tc : Thread Cert.Kernel.nD Cert.Kernel.τ).loc Cert.Kernel.main_arg2) (ix1 k))
      (fun k => Cert.Kernel.Hand.pert (F := Bits) (Cert.Kernel.Hand.tile (m ((c.tc : Thread Cert.Kernel.nD Cert.Kernel.τ).loc Cert.Kernel.main_arg1))) (Cert.Kernel.Hand.place k)),
    ?_, ?_⟩
  · exact (θ_run Cert.Kernel.defs _ _).mono (fun _ h c => ⟨(h.2 c).trans (Cert.Kernel.Hand.final_out m c), h.1.1 c⟩) (Cert.Kernel.Hand.run_all m g)
  · refine (θ_run Cert.Rounded.defs _ _).mono (fun _ h c => ⟨?_, h.2.1 c⟩)
      (θ_run_and (Cert.Rounded.Hand.run_result m' g') (Cert.Rounded.Gen.frame m' g'))
    obtain ⟨h0, h1, h2⟩ := hagree c
    refine (h.1 c).trans ?_
    rw [h0, h1, h2]
    unfold Cert.Rounded.Hand.mix Cert.Kernel.Hand.mix
    funext i
    exact congrArg (fun z => FloatOps.addf _ (FloatOps.mulf _ z)) (row_eq _ (i 1)).symm

end Cert.Bitexact

end
-- ==== Proof.RoundedIdealValue.lean ====
module

public import proofs.«01_k».proof.Proof.Gen.RoundedIdeal.Frame
public import Idealize.ShloMosaic.Lib.Pipeline.ValueKit.Geometry
public import Idealize.ShloMosaic.Lib.StableHlo.ReadAt
public import Idealize.ShloMosaic.Lib.VecWindow
public import Idealize.ShloMosaic.Lib.PointwiseCore

/-!
# The result of the plain form

The plain form's one gridless call leaves the soft counts; its host operations pick the sixty-four greatest, make the
selected values and mix. Its result array at every element, in terms of the three arguments.
-/

@[expose] public section

set_option maxRecDepth 16384

noncomputable section

namespace Cert.RoundedIdeal.Hand

open Cert.RoundedIdeal Cert.RoundedIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]
variable (m : (ℓ : Loc nD τ sig) → Buf (Elt F) ℓ) (ρ : Dev nD → PrngReg)

/-- The sixty-four rounds from the logits: the weights and the soft counts. -/
def rounds (lg : FVec F S8x4096 .f32) : FVec F S8x4096 .f32 × FVec F S8x4096 .f32 :=
  Scf.fold (n := k0_t1_loop.trips) (fun _ acc => (k0_pay4 acc.1, k0_pay5 acc.1 acc.2)) (k0_pay1 lg, k0_pay2)

/-- The logits as the tile. -/
def tile {α : Type} (l : S32768.Idx → α) : S8x4096.Idx → α := shapeCast S8x4096 l shapeCasts_S32768_S8x4096

/-- The soft counts of flat logits, flat. -/
def counts (l : FVec F S32768 .f32) : FVec F S32768 .f32 := shapeCast S32768 (rounds (tile l)).2 shapeCasts_S8x4096_S32768

/-- The positions of the sixty-four greatest of the counts and sixty-four zeros after them. -/
def picks (kh : FVec F S32768 .f32) : IVec S64 32 :=
  (Host.topK S64 0 (FloatOps.cmpfTotal .gt)
    (concatenate S32832 0 [⟨S32768, kh⟩, ⟨S64, broadcastInDim S64 ![] bcast_S_S64 (constant S_ .f32 0x00000000#32)⟩]
      concatenates_S32768_S64_S32832_d0) sliceFits_S32832_S64).2

/-- Ones at the positions picked, zeros elsewhere. -/
def marks (ind : IVec S64 32) : FVec F S32768 .f32 :=
  Host.scatter scatter_S32768_S64x1_S64_n_0_0_1 (fun _ b => b)
    (broadcastInDim S32768 ![] bcast_S_S32768 (constant S_ .f32 0x00000000#32))
    (broadcastInDim S64x1 ![0] bcast_S64_S64x1_0
      (select (cmpi .slt ind (broadcastInDim S64 ![] bcast_S_S64 (constantI S_ 32 0#32)))
        (addi ind (broadcastInDim S64 ![] bcast_S_S64 (constantI S_ 32 32768#32))) ind))
    (broadcastInDim S64 ![] bcast_S_S64 (constant S_ .f32 0x3F800000#32))

/-- The selected values. -/
def values (kh : FVec F S32768 .f32) : FVec F S32768 .f32 :=
  select (cmpf .ogt (marks (F := F) (picks kh)) (broadcastInDim S32768 ![] bcast_S_S32768 (constant S_ .f32 0x00000000#32)))
    (addf (subf (broadcastInDim S32768 ![] bcast_S_S32768 (constant S_ .f32 0x3F800000#32)) kh) kh)
    (broadcastInDim S32768 ![] bcast_S_S32768 (constant S_ .f32 0x00000000#32))

/-- `x` moved towards the new values `pv` by the factors `row`, column by column. -/
def mix (x : FVec F S64x32768 .f32) (pv row : Fin 32768 → F .f32) : FVec F S64x32768 .f32 :=
  fun i => FloatOps.addf (x i) (FloatOps.mulf (FloatOps.subf (pv (i 1)) (x i)) (row (i 1)))

/-- The body's one store. -/
theorem out_eq (c : Dev nD) (arg0 : Memref sig .tc .vmem S8x4096 .f32) (harg0 : arg0.IsWhole) (arg1 : Memref sig .tc .vmem S8x4096 .f32)
    (harg1 : arg1.IsWhole) (x0 : Vec F S8x4096 .f32) : out0_A_1 c arg0 harg0 arg1 harg1 x0 = (rounds x0).2 := by
  unfold out0_A_1 kernelRun0_A
  refine (View.read_writes_full _ _ _ _ _).trans ?_
  unfold kernelRun0_A.sl.r
  rw [View.readAt_full, harg0.read_unread]
  rfl

theorem index0 : ∀ t : Fin grid0.N, win0_0.index t = ![0, 0] := by decide +kernel
theorem index1 : ∀ t : Fin grid0.N, win0_1.index t = ![0, 0] := by decide +kernel

/-- The call's result array. -/
theorem final_out (c : Dev nD) : (dats m 0 c).arrAt 1 cfg0.N = (rounds (tile (m ((c : Thread nD τ).loc main_arg1)))).2 := by
  refine (dats m 0 c).arrAt_eq_of_covers 1 _ (by decide +kernel) fun t hf y => ?_
  blk_simp
  rw [after0_1]
  unfold outsAt0
  rw [out_eq]
  have e : iblk m c 0 t = tile (m ((c : Thread nD τ).loc main_arg1)) := by
    funext z
    blk_simp [iblk]
    rw [show V m c main_v0 = tile (m ((c : Thread nD τ).loc main_arg1)) from rfl]
    congr 1
    blk_ext [index0]
  rw [e]
  congr 1
  blk_ext [index1]

/-- A flat array down the rows. -/
def rows (v : FVec F S32768 .f32) : FVec F S64x32768 .f32 :=
  broadcastInDim S64x32768 ![0, 1] bcast_S1x32768_S64x32768_0_1 (broadcastInDim S1x32768 ![1] bcast_S32768_S1x32768_1 v)
theorem rows_apply (v : FVec F S32768 .f32) (i : S64x32768.Idx) : rows v i = v (ix1 (i 1)) := by
  unfold rows
  pointwise

/-- The host operations after the call, from any arrays: the result array. -/
theorem tail_eq (W : Valuation τ sig (Elt F)) :
    StableHlo.after [hostOps1, hostOps1_1, hostOps1_2].flatten W (Proc.devRef .tc main_v26)
      = mix (W (Proc.devRef .tc main_arg0)) (fun k => W (Proc.devRef .tc main_arg2) (ix1 k))
        (fun k => values (shapeCast S32768 (W (Proc.devRef .tc main_v1) : S8x4096.Idx → F .f32) shapeCasts_S8x4096_S32768) (ix1 k)) := by
  have e2 : StableHlo.upto [hostOps1, hostOps1_1, hostOps1_2].flatten W 3 (Proc.devRef .tc main_v2)
      = (shapeCast S32768 (W (Proc.devRef .tc main_v1) : S8x4096.Idx → F .f32) shapeCasts_S8x4096_S32768) := rfl
  have e3 : StableHlo.upto [hostOps1, hostOps1_1, hostOps1_2].flatten W 3 (Proc.devRef .tc main_v3)
      = (broadcastInDim S64 ![] bcast_S_S64 (constant S_ .f32 0x00000000#32) : FVec F S64 .f32) := rfl
  after_reads_simp
  rw [e2, e3]
  simp -implicitDefEqProofs only [StableHlo.TRef.toBuf, StableHlo.TRef.ofBuf, cast_cast, cast_eq]
  show addf (W (Proc.devRef .tc main_arg0) : FVec F S64x32768 .f32)
      (mulf (subf (rows (W (Proc.devRef .tc main_arg2) : FVec F S32768 .f32)) (W (Proc.devRef .tc main_arg0) : FVec F S64x32768 .f32))
        (rows (values (shapeCast S32768 (W (Proc.devRef .tc main_v1) : S8x4096.Idx → F .f32) shapeCasts_S8x4096_S32768)))) = _
  funext i
  show FloatOps.addf _ (FloatOps.mulf (FloatOps.subf (rows _ i) _) (rows _ i)) = _
  rw [rows_apply, rows_apply]
  rfl

/-- The result array. -/
theorem result (c : Dev nD) : Pipeline.afterTail₀ cfgs (dats m) 0 (V0 m) [hostOps1, hostOps1_1, hostOps1_2] c main_v26
    = mix (m ((c : Thread nD τ).loc main_arg0)) (fun k => m ((c : Thread nD τ).loc main_arg2) (ix1 k))
        (fun k => values (counts (m ((c : Thread nD τ).loc main_arg1))) (ix1 k)) := by
  unfold Pipeline.afterTail₀
  rw [tail_eq]
  have w1 : Pipeline.withArrays (cfgs 0).spec c (V0 m c) (fun w => (dats m 0 c).arrAt w (cfgs 0).N) (Proc.devRef .tc main_v1)
      = (rounds (tile (m ((c : Thread nD τ).loc main_arg1)))).2 :=
    (Pipeline.withArrays_arr spec0 (by decide) c (V0 m c) (fun w => (dats m 0 c).arrAt w (cfgs 0).N) 1).trans (final_out m c)
  have w0 : Pipeline.withArrays (cfgs 0).spec c (V0 m c) (fun w => (dats m 0 c).arrAt w (cfgs 0).N) (Proc.devRef .tc main_arg0)
      = m ((c : Thread nD τ).loc main_arg0) :=
    (Pipeline.withArrays_of_ne spec0 c (V0 m c) (fun w => (dats m 0 c).arrAt w (cfgs 0).N) main_arg0 (by decide)).trans rfl
  have w2 : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) (fun w => (dats m 0 c).arrAt w (cfgs 0).N) main_arg2 (by decide)).trans rfl
  rw [w0, w1, w2]
  rfl

/-- The run with its result. -/
theorem run_result : θ_run defs (onTc (τ := τ) (main (F := F))) ⟨m, fun _ => 0, ρ⟩ (fun r => ∀ c : Dev nD,
      r.2.mem ((c.tc : Thread nD τ).loc main_v26)
        = mix (m ((c : Thread nD τ).loc main_arg0)) (fun k => m ((c : Thread nD τ).loc main_arg2) (ix1 k))
        (fun k => values (counts (m ((c : Thread nD τ).loc main_arg1))) (ix1 k))) :=
  (θ_run defs _ _).mono (fun _ h c => ((h c).2 main_v26 (Pipeline.mem_restRefs_of main_v26 (by decide) (by decide))).trans (result m c))
    (run_main m ρ)

end Cert.RoundedIdeal.Hand

end
-- ==== Proof.Relax.lean ====
module

public import Idealize.ShloMosaic.Lib.IdealHost

/-!
# The relaxed subset sampler over the reals

A row of weights is nonnegative with a positive sum. A weight's share is its part of the sum. A round multiplies each
weight by what its share leaves of one, and by no less than a small constant. The shares of sixty-four rounds add up to
the soft counts. Scaling every weight by one positive number changes no share.

The rest of the file reads one round over the extended reals, in two forms. The multiplicative form keeps the weights
themselves. The logarithmic form keeps their logarithms and takes the shares by a softmax.
-/

@[expose] public section

noncomputable section

namespace Cert.Relax

open Idealize.ShloMosaic Finset

variable {n : ℕ}

/-- The least factor of a round: the least positive normal float. -/
def least : ℝ := (2 : ℝ) ^ (-126 : Int)

theorem least_pos : 0 < least := zpow_pos two_pos _

theorem least_le_one : least ≤ 1 := by
  unfold least
  exact zpow_le_one_of_nonpos₀ one_le_two (by decide)

/-- A row of weights. -/
structure Good (w : Fin n → ℝ) : Prop where
  nonneg : ∀ i, 0 ≤ w i
  pos : 0 < ∑ i, w i

/-- A weight's part of the sum. -/
def share (w : Fin n → ℝ) (i : Fin n) : ℝ := w i / ∑ j, w j

/-- The factor by which a round multiplies a weight. -/
def factor (w : Fin n → ℝ) (i : Fin n) : ℝ := max (1 - share w i) least

/-- The weights after a round. -/
def next (w : Fin n → ℝ) (i : Fin n) : ℝ := w i * factor w i

/-- The shares of the first `k` rounds, added up. -/
def soft (v : Fin n → ℝ) (k : ℕ) (i : Fin n) : ℝ := ∑ j ∈ range k, share (next^[j] v) i

theorem factor_pos (w : Fin n → ℝ) (i : Fin n) : 0 < factor w i := lt_of_lt_of_le least_pos (le_max_right _ _)

theorem share_nonneg {w : Fin n → ℝ} (h : Good w) (i : Fin n) : 0 ≤ share w i := div_nonneg (h.nonneg i) h.pos.le

theorem exists_pos {w : Fin n → ℝ} (h : Good w) : ∃ i, 0 < w i := by
  by_contra hn
  refine absurd h.pos (not_lt.2 (sum_nonpos fun i _ => ?_))
  exact not_lt.1 fun hi => hn ⟨i, hi⟩

theorem good_of {w : Fin n → ℝ} (h : ∀ i, 0 ≤ w i) {i : Fin n} (hi : 0 < w i) : Good w :=
  ⟨h, lt_of_lt_of_le hi (single_le_sum (fun j _ => h j) (mem_univ i))⟩

theorem good_next {w : Fin n → ℝ} (h : Good w) : Good (next w) := by
  obtain ⟨i, hi⟩ := exists_pos h
  exact good_of (fun j => mul_nonneg (h.nonneg j) (factor_pos w j).le) (mul_pos hi (factor_pos w i))

theorem good_iterate {v : Fin n → ℝ} (h : Good v) : ∀ k, Good (next^[k] v)
  | 0 => h
  | k + 1 => by
    rw [Function.iterate_succ_apply']
    exact good_next (good_iterate h k)

theorem good_scale {w : Fin n → ℝ} (h : Good w) {c : ℝ} (hc : 0 < c) : Good fun i => c * w i := by
  obtain ⟨i, hi⟩ := exists_pos h
  exact good_of (fun j => mul_nonneg hc.le (h.nonneg j)) (mul_pos hc hi)

theorem share_scale {c : ℝ} (hc : 0 < c) (w : Fin n → ℝ) (i : Fin n) : share (fun i => c * w i) i = share w i := by
  unfold share
  rw [← mul_sum]
  exact mul_div_mul_left _ _ hc.ne'

theorem next_scale {c : ℝ} (hc : 0 < c) (w : Fin n → ℝ) (i : Fin n) : next (fun i => c * w i) i = c * next w i := by
  unfold next factor
  rw [share_scale hc, mul_assoc]

theorem soft_succ (v : Fin n → ℝ) (k : ℕ) (i : Fin n) : soft v (k + 1) i = soft v k i + share (next^[k] v) i :=
  sum_range_succ _ _

theorem soft_nonneg {v : Fin n → ℝ} (h : Good v) (k : ℕ) (i : Fin n) : 0 ≤ soft v k i :=
  sum_nonneg fun j _ => share_nonneg (good_iterate h j) i

/-! ## Over the extended reals -/

theorem coe_sum (w : Fin n → ℝ) : (∑ i, (w i : EReal)) = ((∑ i, w i : ℝ) : EReal) :=
  (map_sum (⟨⟨((↑) : ℝ → EReal), EReal.coe_zero⟩, EReal.coe_add⟩ : ℝ →+ EReal) w univ).symm

theorem div_real (a : ℝ) {b : ℝ} (hb : b ≠ 0) : Ideal.div (a : EReal) (b : EReal) = ((a / b : ℝ) : EReal) := by
  rw [Ideal.div_coe hb, ← EReal.coe_mul, mul_one_div]

theorem least_bits : Ideal.ofBits .f32 0x00800000#32 = (least : EReal) := by
  simp [Ideal.ofBits, Ideal.ieee, least, -EReal.coe_mul]; norm_num

theorem log_pos {r : ℝ} (h : 0 < r) : Ideal.log (r : EReal) = (Real.log r : EReal) := by
  rw [Ideal.log_coe, if_neg (not_le.2 h)]

theorem exp_log {r : ℝ} (h : 0 ≤ r) : Ideal.exp (Ideal.log (r : EReal)) = (r : EReal) := by
  rcases h.eq_or_lt with h | h
  · rw [← h, Ideal.log_coe, if_pos le_rfl, Ideal.exp_bot, EReal.coe_zero]
  · rw [log_pos h, Ideal.exp_coe, Real.exp_log h]

theorem log_add {a b : ℝ} (ha : 0 ≤ a) (hb : 0 < b) :
    Ideal.log (a : EReal) + Ideal.log (b : EReal) = Ideal.log ((a * b : ℝ) : EReal) := by
  rcases ha.eq_or_lt with h | h
  · rw [← h, zero_mul, Ideal.log_coe, if_pos le_rfl, EReal.bot_add]
  · rw [log_pos h, log_pos hb, log_pos (mul_pos h hb), Real.log_mul h.ne' hb.ne', EReal.coe_add]

theorem log_sub {a : ℝ} (ha : 0 ≤ a) (r : ℝ) :
    Ideal.log (a : EReal) - (r : EReal) = Ideal.log ((a * Real.exp (-r) : ℝ) : EReal) := by
  rw [← log_add ha (Real.exp_pos _), log_pos (Real.exp_pos _), Real.log_exp, EReal.coe_neg, sub_eq_add_neg]

/-- A logarithm of a row of weights, less a real number, has the exponentials of the row scaled. -/
theorem exp_log_sub {a : ℝ} (ha : 0 ≤ a) (r : ℝ) :
    Ideal.exp (Ideal.log (a : EReal) - (r : EReal)) = ((Real.exp (-r) * a : ℝ) : EReal) := by
  rw [log_sub ha, exp_log (mul_nonneg ha (Real.exp_pos _).le), mul_comm]

/-- Below infinity an extended real is the logarithm of a nonnegative real. -/
theorem log_of {l : EReal} (h : l < ⊤) : ∃ a : ℝ, 0 ≤ a ∧ (l ≠ ⊥ → 0 < a) ∧ l = Ideal.log (a : EReal) := by
  induction l using EReal.rec with
  | bot => exact ⟨0, le_rfl, fun h => absurd rfl h, by rw [Ideal.log_coe, if_pos le_rfl]⟩
  | coe r => exact ⟨Real.exp r, (Real.exp_pos r).le, fun _ => Real.exp_pos r, by rw [log_pos (Real.exp_pos r), Real.log_exp]⟩
  | top => exact absurd h (lt_irrefl _)

/-- The greatest of a row of logarithms of weights is a real number. -/
theorem greatest_real {w : Fin n → ℝ} (h : Good w) :
    ∃ r : ℝ, (univ : Finset (Fin n)).fold max (⊥ : EReal) (fun i => Ideal.log (w i : EReal)) = (r : EReal) := by
  obtain ⟨i, hi⟩ := exists_pos h
  have ht : (univ : Finset (Fin n)).fold max (⊥ : EReal) (fun i => Ideal.log (w i : EReal)) < ⊤ := by
    rw [fold_max_lt]
    refine ⟨bot_lt_top, fun j _ => ?_⟩
    rcases (h.nonneg j).eq_or_lt with hj | hj
    · rw [← hj, Ideal.log_coe, if_pos le_rfl]
      exact bot_lt_top
    · rw [log_pos hj]
      exact EReal.coe_lt_top _
  have hb : ⊥ < (univ : Finset (Fin n)).fold max (⊥ : EReal) (fun i => Ideal.log (w i : EReal)) := by
    rw [lt_fold_max]
    refine Or.inr ⟨i, mem_univ i, ?_⟩
    rw [log_pos hi]
    exact EReal.bot_lt_coe _
  exact ⟨_, (EReal.coe_toReal ht.ne hb.ne').symm⟩

/-- The factor of a round. -/
theorem factor_coe (w : Fin n → ℝ) (i : Fin n) :
    max ((1 : EReal) - (share w i : EReal)) (least : EReal) = (factor w i : EReal) := by
  rw [← EReal.coe_one, ← EReal.coe_sub]
  exact (EReal.coe_strictMono.monotone.map_max).symm

/-- The share in the multiplicative form. -/
theorem mul_share {w : Fin n → ℝ} (h : Good w) (i : Fin n) :
    (w i : EReal) * Ideal.div 1 (∑ j, (w j : EReal)) = (share w i : EReal) := by
  rw [coe_sum, ← EReal.coe_one, div_real 1 h.pos.ne', ← EReal.coe_mul, mul_one_div]
  rfl

/-- The share in the logarithmic form: the softmax of the logarithms. -/
theorem log_share {w : Fin n → ℝ} (h : Good w) (r : ℝ) (i : Fin n) :
    Ideal.div (Ideal.exp (Ideal.log (w i : EReal) - (r : EReal))) (∑ j, Ideal.exp (Ideal.log (w j : EReal) - (r : EReal)))
      = (share w i : EReal) := by
  have e : (fun j => Ideal.exp (Ideal.log (w j : EReal) - (r : EReal))) = fun j => ((Real.exp (-r) * w j : ℝ) : EReal) :=
    funext fun j => exp_log_sub (h.nonneg j) r
  rw [e, exp_log_sub (h.nonneg i), coe_sum (fun j => Real.exp (-r) * w j),
    div_real _ (good_scale h (Real.exp_pos (-r))).pos.ne', ← share_scale (Real.exp_pos (-r)) w i]
  rfl

/-- The logarithm of the weights after a round. -/
theorem log_next {w : Fin n → ℝ} (h : Good w) (i : Fin n) :
    Ideal.log (w i : EReal) + Ideal.log (factor w i : EReal) = Ideal.log (next w i : EReal) :=
  log_add (h.nonneg i) (factor_pos w i)

end Cert.Relax

end
-- ==== Proof.RoundedIdealSoft.lean ====
module

public import proofs.«01_k».proof.Proof.RoundedIdealValue
public import proofs.«01_k».proof.Proof.Counts
public import proofs.«01_k».proof.Proof.Search
public import proofs.«01_k».proof.Proof.Relax
public import Idealize.ShloMosaic.Lib.IdealHost
public import Idealize.ShloMosaic.Lib.Pointwise.Reshape

/-!
# The plain form's soft counts over the extended reals

Logits whose exponentials are weights with a positive sum: the weights the loop carries are those of each round times
one positive factor, so the soft counts are those of the weights.
-/

@[expose] public section

set_option maxRecDepth 8192

noncomputable section

namespace Cert.RoundedIdeal.Hand

open Cert.RoundedIdeal Cert.RoundedIdeal.Gen
open Idealize.ShloMosaic Finset Cert.Relax
open Cert.Kernel.Hand (place flat)

theorem flat_apply (p : S8x4096.Idx → EReal) (i : S1x8x4096.Idx) :
    shapeCast S1x8x4096 p shapeCasts_S8x4096_S1x8x4096 i = p (place (flat i)) := Cert.Kernel.Hand.flat_apply p i

theorem drop_eq (i : S1x8x4096.Idx) (j : S1.Idx) : reduces_S1x8x4096_S1.drop i = j := by
  funext a
  match a with
  | ⟨0, _⟩ => exact Subsingleton.elim (α := Fin 1) _ _

/-- The greatest entry of a tile. -/
theorem max_apply (p : FVec Ideal S8x4096 .f32) (j : S1.Idx) :
    multiReduction .maximumf [1, 2] S1 (shapeCast S1x8x4096 p shapeCasts_S8x4096_S1x8x4096) 0xFF800000#32 reduces_S1x8x4096_S1 (.inl rfl) rfl j
      = (univ : Finset (Fin 32768)).fold max (⊥ : EReal) fun k => p (place k) := by
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  refine (multiReduction_maximumf_eq_fold _ _ reduces_S1x8x4096_S1 _ _ j).trans ?_
  rw [filter_true_of_mem fun i _ => drop_eq i j]
  have e : (univ : Finset S1x8x4096.Idx) = (univ : Finset (Fin 32768)).map flat.symm.toEmbedding := (map_univ_equiv _).symm
  have hb : Ideal.ofBits .f32 0xFF800000#32 = (⊥ : EReal) := by simp [Ideal.ofBits, Ideal.ieee]
  show (univ : Finset S1x8x4096.Idx).fold max (Ideal.ofBits .f32 0xFF800000#32) (shapeCast S1x8x4096 p shapeCasts_S8x4096_S1x8x4096 : S1x8x4096.Idx → EReal) = _
  rw [hb, e, fold_map]
  refine fold_congr fun k _ => ?_
  refine (flat_apply p _).trans ?_
  show p (place (flat (flat.symm k))) = _
  rw [Equiv.apply_symm_apply]

/-- The sum of a tile. -/
theorem sum_apply (p : FVec Ideal S8x4096 .f32) (j : S1.Idx) :
    multiReduction .add [1, 2] S1 (shapeCast S1x8x4096 p shapeCasts_S8x4096_S1x8x4096) 0x00000000#32 reduces_S1x8x4096_S1 (.inl rfl) rfl j
      = ∑ k : Fin 32768, p (place k) := by
  refine (Ideal.multiReduction_add_total _ _ reduces_S1x8x4096_S1 (fun b => ?_) _ _ j).trans ?_
  · match b with
    | ⟨0, _⟩ => rfl
  · refine Eq.trans ?_ (Equiv.sum_comp flat fun k => (p (place k) : EReal))
    exact sum_congr rfl fun i _ => flat_apply p i

variable {w : Fin 32768 → ℝ}

theorem exp_apply {s : Shape} (x : FVec Ideal s .f32) (i : s.Idx) : exp x i = Ideal.exp (x i) := rfl
theorem subf_apply {s : Shape} (x y : FVec Ideal s .f32) (i : s.Idx) : subf x y i = x i - y i := rfl

/-- A scalar spread over a tile. -/
theorem spread_apply (z : FVec Ideal S1 .f32) (i : S8x4096.Idx) :
    broadcastTo S8x4096 (broadcast S1x1 (extractAt ![0, 0, 0] (shapeCast S1x1x1 z shapeCasts_S1_S1x1x1) inpos_S1x1x1_p0_0_0)) broadcasts_S1x1_S8x4096 i
      = z (ix1 0) := by
  refine congrArg z ?_
  funext a
  match a with
  | ⟨0, _⟩ => exact Subsingleton.elim (α := Fin 1) _ _

/-- A tile less a scalar spread over it, exponentials taken. -/
theorem pay1_apply (p : FVec Ideal S8x4096 .f32) (k : Fin 32768) :
    k0_pay1 (F := Ideal) p (place k) = Ideal.exp (p (place k) - (univ : Finset (Fin 32768)).fold max (⊥ : EReal) fun k => p (place k)) := by
  have hs : shapeCast S8x4096 p shapeCasts_S8x4096_S8x4096 = p := shapeCast_self _ _
  unfold k0_pay1
  dsimp only
  rw [hs, exp_apply, subf_apply]
  refine congrArg (fun z => Ideal.exp (p (place k) - z)) ?_
  exact (spread_apply _ _).trans (max_apply p _)

/-- A tile divided by its sum. -/
theorem pay3_apply (p : FVec Ideal S8x4096 .f32) (k : Fin 32768) :
    k0_pay3 (F := Ideal) p (place k) = p (place k) * Ideal.div (Ideal.ofBits .f32 0x3F800000#32) (∑ k : Fin 32768, p (place k)) :=
  congrArg (fun z => p (place k) * Ideal.div (Ideal.ofBits .f32 0x3F800000#32) z) (sum_apply p _)

/-- The first weights, from logarithms of weights. -/
theorem pay1_log (h : Good w) (p : FVec Ideal S8x4096 .f32) (hp : ∀ k, p (place k) = Ideal.log (w k : EReal)) :
    ∃ c : ℝ, 0 < c ∧ ∀ k, k0_pay1 (F := Ideal) p (place k) = ((c * w k : ℝ) : EReal) := by
  obtain ⟨r, hr⟩ := greatest_real h
  refine ⟨Real.exp (-r), Real.exp_pos _, fun k => ?_⟩
  rw [← exp_log_sub (h.nonneg k), ← hr, pay1_apply]
  simp only [hp]

/-- A round's shares, from weights. -/
theorem pay3_coe (h : Good w) (u : FVec Ideal S8x4096 .f32) (hu : ∀ k, u (place k) = (w k : EReal)) (k : Fin 32768) :
    k0_pay3 (F := Ideal) u (place k) = (share w k : EReal) := by
  rw [pay3_apply, Ideal.ofBits_one_f32]
  simp only [hu]
  exact mul_share h k

theorem pay4_apply (u : FVec Ideal S8x4096 .f32) (i : S8x4096.Idx) : k0_pay4 (F := Ideal) u i =
    u i * max (Ideal.ofBits .f32 0x3F800000#32 - k0_pay3 (F := Ideal) u i) (Ideal.ofBits .f32 0x00800000#32) := rfl

theorem pay5_apply (u kh : FVec Ideal S8x4096 .f32) (i : S8x4096.Idx) : k0_pay5 (F := Ideal) u kh i = kh i + k0_pay3 (F := Ideal) u i := rfl

theorem pay2_apply (i : S8x4096.Idx) : k0_pay2 (F := Ideal) i = Ideal.ofBits .f32 0x00000000#32 := rfl

theorem trips_eq : k0_t1_loop.trips = 64 := by decide +kernel

/-- The soft counts of a tile of logarithms of weights. -/
theorem rounds_log (h : Good w) (p : FVec Ideal S8x4096 .f32) (hp : ∀ k, p (place k) = Ideal.log (w k : EReal)) (k : Fin 32768) :
    (rounds (F := Ideal) p).2 (place k) = (soft w 64 k : EReal) := by
  have key := Cert.Kernel.Hand.fold_rec (n := k0_t1_loop.trips)
    (fun _ (acc : FVec Ideal S8x4096 .f32 × FVec Ideal S8x4096 .f32) => (k0_pay4 acc.1, k0_pay5 acc.1 acc.2))
    (fun n acc => (∃ c : ℝ, 0 < c ∧ ∀ k, acc.1 (place k) = ((c * next^[n] w k : ℝ) : EReal)) ∧ ∀ k, acc.2 (place k) = (soft w n k : EReal))
    (k0_pay1 p, k0_pay2) ?_ ?_
  · have := key.2 k
    rw [trips_eq] at this
    exact this
  · refine ⟨pay1_log h p hp, fun k => ?_⟩
    dsimp only
    rw [pay2_apply, Ideal.ofBits_zero_f32]
    rfl
  · rintro n ⟨u, kh⟩ ⟨⟨c, hc, hu⟩, hk⟩
    dsimp only at hu hk ⊢
    have hg := good_scale (good_iterate h n.val) hc
    have ho := pay3_coe hg u hu
    refine ⟨⟨c, hc, fun k => ?_⟩, fun k => ?_⟩
    · rw [pay4_apply, ho, Ideal.ofBits_one_f32, least_bits, factor_coe, hu, ← EReal.coe_mul, Function.iterate_succ_apply', ← next_scale hc]
      rfl
    · rw [pay5_apply, ho, hk, soft_succ, EReal.coe_add, share_scale hc]

/-- The soft counts of flat logarithms of weights. -/
theorem counts_log (h : Good w) (l : FVec Ideal S32768 .f32) (hl : ∀ k, l (ix1 k) = Ideal.log (w k : EReal)) (k : Fin 32768) :
    counts (F := Ideal) l (ix1 k) = (soft w 64 k : EReal) := by
  have e : counts (F := Ideal) l (ix1 k) = (rounds (tile l)).2 (place k) := by
    unfold counts place
    pointwise
  rw [e]
  refine rounds_log h _ (fun k => ?_) k
  rw [← hl]
  unfold tile place
  pointwise

end Cert.RoundedIdeal.Hand

end
-- ==== Proof.ReferenceValue.lean ====
module

public import proofs.«01_k».proof.Proof.Gen.ReferenceIdeal.Run
public import Idealize.ShloMosaic.Lib.StableHlo.ReadAt

/-!
# The reference's result

The reference's run in plain functions of its arguments: the log-softmax, sixty-four steps on three rows (the keys, the
soft counts, the shares), the marks of the sixty-four greatest counts, and the mixture.
-/

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ)

/-- One value at every place. -/
def splat (z : FVec F S_ .f32) : FVec F S32768 .f32 :=
  broadcastInDim S32768 ![0] bcast_S1_S32768_0 (broadcastInDim S1 ![] bcast_S_S1 z)

/-- One bit pattern at every place. -/
def const (b : BitVec 32) : FVec F S32768 .f32 := broadcastInDim S32768 ![] bcast_S_S32768 (constant S_ .f32 b)

/-- A row's greatest entry. -/
def greatest (k : FVec F S32768 .f32) : FVec F S_ .f32 :=
  maximumf (constant S_ .f32 0xFF800000#32) (Host.reduce FloatOps.maximumf k (constant S_ .f32 0xFF800000#32) reducesTo_S32768_S_d0 h_S_)

/-- A row's sum. -/
def total (k : FVec F S32768 .f32) : FVec F S_ .f32 :=
  Host.reduceAdd k (constant S_ .f32 0x00000000#32) reducesTo_S32768_S_d0 h_S_

/-- A row less its greatest entry. -/
def shifted (k : FVec F S32768 .f32) : FVec F S32768 .f32 := subf k (splat (greatest k))

/-- The log-softmax of a row. -/
def logSoftmax (l : FVec F S32768 .f32) : FVec F S32768 .f32 :=
  subf (shifted l) (broadcastInDim S32768 ![0] bcast_S1_S32768_0 (Host.log (broadcastInDim S1 ![] bcast_S_S1 (total (Host.exp (shifted l))))))

/-- The softmax of a row. -/
def softmax (k : FVec F S32768 .f32) : FVec F S32768 .f32 :=
  Host.divf (Host.exp (shifted k)) (splat (total (Host.exp (shifted k))))

/-- The keys after a step. -/
def keys (k o : FVec F S32768 .f32) : FVec F S32768 .f32 :=
  addf k (Host.log (maximumf (subf (const 0x3F800000#32) o) (const 0x00800000#32)))

/-- The shares after a step. -/
def shares (k o : FVec F S32768 .f32) : FVec F S32768 .f32 := softmax (Host.divf (keys k o) (const 0x3F800000#32))

/-- The keys, the soft counts and the shares after `n` steps. -/
def steps (l : FVec F S32768 .f32) : ℕ → FVec F S32768 .f32 × FVec F S32768 .f32 × FVec F S32768 .f32
  | 0 => (logSoftmax l, const 0x00000000#32, const 0x00000000#32)
  | n + 1 => let s := steps l n
    (keys s.1 s.2.2, addf s.2.1 (shares s.1 s.2.2), shares s.1 s.2.2)

/-- The positions of the sixty-four greatest counts. -/
def picks (kh : FVec F S32768 .f32) : IVec S64 32 := (Host.topK S64 0 (FloatOps.cmpfTotal .gt) kh sliceFits_S32768_S64).2

/-- Ones at the positions picked, zeros elsewhere. -/
def marks (ind : IVec S64 32) : FVec F S32768 .f32 :=
  Host.scatter scatter_S32768_S64x1_S64_n_0_0_1 (fun _ b => b) (const 0x00000000#32)
    (broadcastInDim S64x1 ![0] bcast_S64_S64x1_0
      (select (cmpi .slt ind (broadcastInDim S64 ![] bcast_S_S64 (constantI S_ 32 0#32)))
        (addi ind (broadcastInDim S64 ![] bcast_S_S64 (constantI S_ 32 32768#32))) ind))
    (broadcastInDim S64 ![] bcast_S_S64 (constant S_ .f32 0x3F800000#32))

/-- The marks with the counts taken away and added back. -/
def values (kh : FVec F S32768 .f32) : FVec F S32768 .f32 := addf (subf (marks (picks kh)) kh) kh

/-- A flat array down the rows. -/
def rows (v : FVec F S32768 .f32) : FVec F S64x32768 .f32 :=
  broadcastInDim S64x32768 ![0, 1] bcast_S1x32768_S64x32768_0_1 (broadcastInDim S1x32768 ![1] bcast_S32768_S1x32768_1 v)

theorem entry_keys (c : Dev nD) :
    entryContents preI m c (Proc.devRef .tc main_v3_2) = logSoftmax (m ((c.tc : Thread nD τ).loc main_arg1)) := by
  simp only [entryContents, afterL_cons, afterL_nil]
  after_reads_simp
  simp -implicitDefEqProofs only [StableHlo.TRef.toBuf, StableHlo.TRef.ofBuf, cast_cast, cast_eq]
  rfl

theorem entry_soft (c : Dev nD) : entryContents preI m c (Proc.devRef .tc main_v3_3) = (const 0x00000000#32 : FVec F S32768 .f32) := by
  simp only [entryContents, afterL_cons, afterL_nil]
  after_reads_simp
  rfl

theorem entry_shares (c : Dev nD) : entryContents preI m c (Proc.devRef .tc main_v3_4) = (const 0x00000000#32 : FVec F S32768 .f32) := by
  simp only [entryContents, afterL_cons, afterL_nil]
  after_reads_simp
  rfl

/-- The carried rows after `n` trips. -/
theorem iterate_eq (c : Dev nD) : ∀ n : ℕ,
    STEP^[n] (entryContents preI m c) (Proc.devRef .tc main_v3_2) = (steps (m ((c.tc : Thread nD τ).loc main_arg1)) n).1
    ∧ STEP^[n] (entryContents preI m c) (Proc.devRef .tc main_v3_3) = (steps (m ((c.tc : Thread nD τ).loc main_arg1)) n).2.1
    ∧ STEP^[n] (entryContents preI m c) (Proc.devRef .tc main_v3_4) = (steps (m ((c.tc : Thread nD τ).loc main_arg1)) n).2.2
  | 0 => ⟨entry_keys m c, entry_soft m c, entry_shares m c⟩
  | n + 1 => by
    obtain ⟨h2, h3, h4⟩ := iterate_eq c n
    rw [Function.iterate_succ_apply', STEP_main_v3_2, STEP_main_v3_3, STEP_main_v3_4]
    generalize STEP^[n] (entryContents preI m c) = V at *
    have hk : res_main_while0b_v28 V = keys (steps (m ((c.tc : Thread nD τ).loc main_arg1)) n).1 (steps (m ((c.tc : Thread nD τ).loc main_arg1)) n).2.2 := by
      unfold res_main_while0b_v28
      rw [h2, h4]
      rfl
    have ho : res_main_while0b_v40 V = shares (steps (m ((c.tc : Thread nD τ).loc main_arg1)) n).1 (steps (m ((c.tc : Thread nD τ).loc main_arg1)) n).2.2 := by
      unfold res_main_while0b_v40 res_main_while0b_v36 res_main_while0b_v30
      rw [hk]
      rfl
    refine ⟨hk, ?_, ho⟩
    unfold step_main_v3_3
    rw [ho, h3]
    rfl

/-- The result array. -/
theorem result (c : Dev nD) : out_main_v21 (STEP^[64] (entryContents preI m c)) =
    addf (m ((c.tc : Thread nD τ).loc main_arg0) : FVec F S64x32768 .f32)
      (mulf (subf (rows (m ((c.tc : Thread nD τ).loc main_arg2))) (m ((c.tc : Thread nD τ).loc main_arg0) : FVec F S64x32768 .f32))
        (rows (values (steps (m ((c.tc : Thread nD τ).loc main_arg1)) 64).2.1))) := by
  unfold out_main_v21
  rw [iter_main_arg0, iter_main_arg2, (iterate_eq m c 64).2.1]
  rfl

end Cert.ReferenceIdeal.Hand

end
-- ==== Proof.ReferenceSoft.lean ====
module

public import proofs.«01_k».proof.Proof.ReferenceValue
public import proofs.«01_k».proof.Proof.Relax
public import Idealize.ShloMosaic.Lib.ValueIdxRank1

/-!
# The reference's soft counts over the extended reals

Logits whose exponentials are weights with a positive sum: the keys stay the logarithms of the weights of each round,
up to one positive factor, so the shares and the soft counts are those of the weights.
-/

@[expose] public section

set_option maxRecDepth 8192

noncomputable section

namespace Cert.ReferenceIdeal.Hand

open Cert.ReferenceIdeal Cert.ReferenceIdeal.Gen
open Idealize.ShloMosaic Finset Cert.Relax

instance : Subsingleton S_.Idx := inferInstanceAs (Subsingleton ((a : Fin 0) → Fin (![] a)))

/-- The one position of a scalar. -/
def only : S_.Idx := fun a => a.elim0

theorem splat_apply (z : FVec Ideal S_ .f32) (i : S32768.Idx) (j : S_.Idx) : splat z i = z j :=
  congrArg z (Subsingleton.elim _ _)

theorem divf_apply {s : Shape} (x y : FVec Ideal s .f32) (i : s.Idx) : Host.divf x y i = Ideal.div (x i) (y i) := rfl

/-- The logarithm of a scalar at every place. -/
theorem log_splat_apply (z : FVec Ideal S_ .f32) (i : S32768.Idx) (j : S_.Idx) :
    broadcastInDim S32768 ![0] bcast_S1_S32768_0 (Host.log (broadcastInDim S1 ![] bcast_S_S1 z)) i = Ideal.log (z j) :=
  congrArg (fun j => Ideal.log (z j)) (Subsingleton.elim _ _)

theorem keys_apply (k o : FVec Ideal S32768 .f32) (i : S32768.Idx) :
    keys k o i = k i + Ideal.log (max (Ideal.ofBits .f32 0x3F800000#32 - o i) (Ideal.ofBits .f32 0x00800000#32)) := rfl

theorem steps_succ (l : FVec Ideal S32768 .f32) (n : ℕ) : steps l (n + 1) = (keys (steps l n).1 (steps l n).2.2,
    addf (steps l n).2.1 (shares (steps l n).1 (steps l n).2.2), shares (steps l n).1 (steps l n).2.2) := rfl

theorem addf_apply {s : Shape} (x y : FVec Ideal s .f32) (i : s.Idx) : addf x y i = x i + y i := rfl

theorem const_apply (b : BitVec 32) (i : S32768.Idx) : const (F := Ideal) b i = Ideal.ofBits .f32 b := rfl

theorem bot_bits : Ideal.ofBits .f32 0xFF800000#32 = (⊥ : EReal) := by simp [Ideal.ofBits, Ideal.ieee]

/-- A fold over the positions of a flat array is the fold over its coordinate range. -/
theorem fold_idx (x : S32768.Idx → EReal) : (univ : Finset S32768.Idx).fold max (⊥ : EReal) x = (univ : Finset (Fin 32768)).fold max ⊥ fun i => x (ix1 i) := by
  have e : (univ : Finset S32768.Idx) = (univ : Finset (Fin 32768)).map (ValueIdx.idxEquiv1 (n := 32768)).symm.toEmbedding := (map_univ_equiv _).symm
  rw [e, fold_map]
  rfl

theorem sum_idx (x : S32768.Idx → EReal) : ∑ i, x i = ∑ i : Fin 32768, x (ix1 i) :=
  (Equiv.sum_comp (ValueIdx.idxEquiv1 (n := 32768)).symm x).symm

/-- The host's greatest entry. -/
theorem reduce_max (k : FVec Ideal S32768 .f32) (j : S_.Idx) :
    Host.reduce FloatOps.maximumf k (constant S_ .f32 0xFF800000#32) reducesTo_S32768_S_d0 h_S_ j
      = (univ : Finset (Fin 32768)).fold max (⊥ : EReal) fun i => k (ix1 i) := by
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  rw [Host.reduce_eq_fold, filter_true_of_mem fun i _ => Subsingleton.elim _ _]
  refine Eq.trans ?_ (fold_idx k)
  show (univ : Finset S32768.Idx).fold max (Ideal.ofBits .f32 0xFF800000#32) k = _
  rw [bot_bits]

theorem greatest_apply (k : FVec Ideal S32768 .f32) (j : S_.Idx) :
    greatest k j = (univ : Finset (Fin 32768)).fold max (⊥ : EReal) fun i => k (ix1 i) := by
  show max (Ideal.ofBits .f32 0xFF800000#32) (Host.reduce FloatOps.maximumf k (constant S_ .f32 0xFF800000#32) reducesTo_S32768_S_d0 h_S_ j) = _
  rw [reduce_max, bot_bits, max_eq_right bot_le]

theorem total_apply (k : FVec Ideal S32768 .f32) (j : S_.Idx) : total k j = ∑ i : Fin 32768, k (ix1 i) := by
  refine (Ideal.hostReduceAdd_total reducesTo_S32768_S_d0 (fun b => b.elim0) k (Ideal.ofBits .f32 0x00000000#32) j).trans ?_
  rw [Ideal.ofBits_zero_f32, zero_add, sum_idx]

variable {w : Fin 32768 → ℝ}

/-- The softmax of logarithms of weights is the shares. -/
theorem softmax_log (h : Good w) (k : FVec Ideal S32768 .f32) (hk : ∀ i, k (ix1 i) = Ideal.log (w i : EReal)) (i : Fin 32768) :
    softmax k (ix1 i) = (share w i : EReal) := by
  obtain ⟨r, hr⟩ := greatest_real h
  have hs : ∀ i, Host.exp (shifted k) (ix1 i) = Ideal.exp (Ideal.log (w i : EReal) - (r : EReal)) := fun i => by
    show Ideal.exp (k (ix1 i) - splat (greatest k) (ix1 i)) = _
    rw [splat_apply _ _ only, greatest_apply, hk, ← hr]
    simp only [hk]
  unfold softmax
  rw [divf_apply, splat_apply _ _ only, total_apply, hs]
  simp only [hs]
  exact log_share h r i

/-- The log-softmax of logarithms of weights is the logarithms of the weights times one factor. -/
theorem logSoftmax_log (h : Good w) (k : FVec Ideal S32768 .f32) (hk : ∀ i, k (ix1 i) = Ideal.log (w i : EReal)) :
    ∃ c : ℝ, 0 < c ∧ ∀ i, logSoftmax k (ix1 i) = Ideal.log ((c * w i : ℝ) : EReal) := by
  obtain ⟨r, hr⟩ := greatest_real h
  have hc := Real.exp_pos (-r)
  have hl : ∀ i, shifted k (ix1 i) = Ideal.log ((Real.exp (-r) * w i : ℝ) : EReal) := fun i => by
    show k (ix1 i) - splat (greatest k) (ix1 i) = _
    rw [splat_apply _ _ only, greatest_apply, mul_comm, ← log_sub (h.nonneg i), ← hr, hk]
    simp only [hk]
  have hs : ∀ i, Host.exp (shifted k) (ix1 i) = ((Real.exp (-r) * w i : ℝ) : EReal) := fun i => by
    show Ideal.exp (shifted k (ix1 i)) = _
    rw [hl, exp_log ((good_scale h hc).nonneg i)]
  have hg := good_scale h hc
  generalize hv : (fun i => Real.exp (-r) * w i) = v at hg
  have hvi : ∀ i, Real.exp (-r) * w i = v i := fun i => congrFun hv i
  simp only [hvi] at hl hs
  refine ⟨Real.exp (-(Real.log (∑ i, v i))) * Real.exp (-r), mul_pos (Real.exp_pos _) hc, fun i => ?_⟩
  have ht : broadcastInDim S32768 ![0] bcast_S1_S32768_0 (Host.log (broadcastInDim S1 ![] bcast_S_S1 (total (Host.exp (shifted k))))) (ix1 i)
      = ((Real.log (∑ i, v i) : ℝ) : EReal) := by
    rw [log_splat_apply _ _ only, total_apply]
    simp only [hs]
    rw [coe_sum, log_pos hg.pos]
  show shifted k (ix1 i) - _ = _
  rw [ht, hl, log_sub (hg.nonneg i), mul_assoc, hvi, mul_comm]

/-- The keys, the soft counts and the shares after `n` steps from logarithms of weights. -/
theorem steps_log (h : Good w) (l : FVec Ideal S32768 .f32) (hl : ∀ i, l (ix1 i) = Ideal.log (w i : EReal)) (n : ℕ) :
    (∃ c : ℝ, 0 < c ∧ ∀ i, keys (steps l n).1 (steps l n).2.2 (ix1 i) = Ideal.log ((c * next^[n] w i : ℝ) : EReal))
      ∧ ∀ i, (steps l n).2.1 (ix1 i) = (soft w n i : EReal) := by
  induction n with
  | zero =>
    obtain ⟨c, hc, hk⟩ := logSoftmax_log h l hl
    refine ⟨⟨c, hc, fun i => ?_⟩, fun i => ?_⟩
    · show logSoftmax l (ix1 i) + Ideal.log (max (Ideal.ofBits .f32 0x3F800000#32 - Ideal.ofBits .f32 0x00000000#32) (Ideal.ofBits .f32 0x00800000#32)) = _
      rw [hk, Ideal.ofBits_one_f32, Ideal.ofBits_zero_f32, least_bits, sub_zero, ← EReal.coe_one, ← EReal.coe_strictMono.monotone.map_max,
        max_eq_left least_le_one, log_pos one_pos, Real.log_one, EReal.coe_zero, add_zero]
      rfl
    · show Ideal.ofBits .f32 0x00000000#32 = _
      rw [Ideal.ofBits_zero_f32]
      rfl
  | succ n ih =>
    obtain ⟨⟨c, hc, hk⟩, hs⟩ := ih
    have hg := good_scale (good_iterate h n) hc
    have ho : ∀ i, shares (steps l n).1 (steps l n).2.2 (ix1 i) = (share (next^[n] w) i : EReal) := fun i => by
      unfold shares
      rw [← share_scale hc]
      refine softmax_log hg _ (fun i => ?_) i
      rw [divf_apply, const_apply, Ideal.ofBits_one_f32, hk, ← EReal.coe_one, Ideal.div_coe one_ne_zero, one_div_one, EReal.coe_one, mul_one]
    refine ⟨⟨c, hc, fun i => ?_⟩, fun i => ?_⟩
    · rw [steps_succ]
      dsimp only
      rw [keys_apply, ho, hk, Ideal.ofBits_one_f32, least_bits, factor_coe, Function.iterate_succ_apply', ← next_scale hc]
      have e : factor (next^[n] w) i = factor (fun i => c * next^[n] w i) i := by
        unfold factor
        rw [share_scale hc]
      rw [e]
      exact log_next hg i
    · rw [steps_succ]
      dsimp only
      rw [addf_apply, hs, ho, soft_succ, EReal.coe_add]

end Cert.ReferenceIdeal.Hand

end
-- ==== Proof.IdealSelect.lean ====
module

public import proofs.«01_k».proof.Proof.RoundedSelect
public import proofs.«01_k».proof.Proof.RoundedIdealSoft
public import proofs.«01_k».proof.Proof.ReferenceSoft

/-!
# The selection over the extended reals

Nonnegative real counts: the plain form takes the sixty-four greatest of the counts and sixty-four zeros, the reference
the sixty-four greatest of the counts alone. Both mark the same positions, and both turn the marks into ones and zeros.
-/

@[expose] public section

set_option maxRecDepth 8192

noncomputable section

namespace Cert.IdealSelect

open Idealize.ShloMosaic Finset Cert.Rank Cert.Top

/-- The number of entries below a position's entry. -/
def below {n : ℕ} (f : Fin n → ℝ) (a : Fin n) : ℤ := ((univ.filter fun c => f c < f a).card : ℤ)

/-- The number of entries below orders the positions as the entries do. -/
theorem below_lt {n : ℕ} (f : Fin n → ℝ) (a b : Fin n) : below f b < below f a ↔ f b < f a := by
  unfold below
  rw [Int.ofNat_lt]
  constructor
  · intro h
    by_contra hn
    refine absurd h (not_lt.2 (card_le_card fun c hc => ?_))
    exact mem_filter.2 ⟨mem_univ c, (mem_filter.1 hc).2.trans_le (not_lt.1 hn)⟩
  · intro h
    refine card_lt_card ⟨fun c hc => mem_filter.2 ⟨mem_univ c, (mem_filter.1 hc).2.trans h⟩, fun hs => ?_⟩
    exact absurd (mem_filter.1 (hs (mem_filter.2 ⟨mem_univ b, h⟩))).2 (lt_irrefl _)

/-- A row with zeros after it. -/
def pad {n N : ℕ} (s : Fin n → ℝ) (a : Fin N) : ℝ := if h : a.val < n then s ⟨a.val, h⟩ else 0

theorem pad_low {n N : ℕ} (s : Fin n → ℝ) (h : n ≤ N) (k : Fin n) : pad s (k.castLE h) = s k := dif_pos k.isLt

theorem below_pad {n N : ℕ} (s : Fin n → ℝ) (hs : ∀ k, 0 ≤ s k) (i : Fin N) (hi : n ≤ i.val) : below (pad s) i = 0 := by
  have hz : pad s i = 0 := dif_neg (not_lt.2 hi)
  unfold below
  rw [hz, filter_eq_empty_iff.2, card_empty, Nat.cast_zero]
  intro c _ hc
  unfold pad at hc
  split at hc
  · exact absurd hc (not_lt.2 (hs _))
  · exact absurd hc (lt_irrefl _)

theorem cmp_coe (x y : ℝ) : FloatOps.cmpfTotal (F := Ideal) (φ := .f32) .gt (x : EReal) (y : EReal) = BitVec.ofBool (decide (y < x)) := by
  show BitVec.ofBool (decide ((y : EReal) < (x : EReal))) = _
  simp only [EReal.coe_lt_coe_iff]

/-- A position is selected when its count is among the sixty-four greatest, the lower position first among equals. -/
def Selected (s : Fin 32768 → ℝ) (k : Fin 32768) : Prop :=
  rank (fun k => below (pad (N := 32832) s) (k.castLE (by decide))) k < 64

instance (s : Fin 32768 → ℝ) (k : Fin 32768) : Decidable (Selected s k) := by unfold Selected; infer_instance

variable {s : Fin 32768 → ℝ} {kh : FVec Ideal ⟨1, ![32768]⟩ .f32}

/-- The plain form's marks. -/
theorem plain_marks (hs : ∀ k, 0 ≤ s k) (hk : ∀ k, kh (ix1 k) = (s k : EReal)) (k : Fin 32768) :
    Cert.RoundedIdeal.Hand.marks (F := Ideal) (Cert.RoundedIdeal.Hand.picks kh) (ix1 k) = ((if Selected s k then 1 else 0 : ℝ) : EReal) := by
  have hp : ∀ a : Fin 32832, Cert.Rounded.Hand.padded (F := Ideal) kh (ix1 a) = (pad s a : EReal) := fun a => by
    unfold pad
    by_cases h : a.val < 32768
    · rw [dif_pos h, ← hk]
      exact Cert.Rounded.Hand.padded_low kh a h
    · rw [dif_neg h]
      exact (Cert.Rounded.Hand.padded_high kh a h).trans Ideal.ofBits_zero_f32
  have h := Cert.Rounded.Hand.marks_apply (F := Ideal) kh (below (pad s)) (fun a b => by
    rw [hp, hp, cmp_coe]
    simp only [below_lt]) k
  refine Eq.trans ?_ (h.trans ?_)
  · rfl
  · have e := rank_padded (n := 32768) (p := 64) (by decide) (by decide) (fun k => below (pad (N := 32832) s) (k.castLE (by decide)))
      (below (pad s)) (fun _ => rfl) (fun i hi => below_pad s hs i hi) k
    have e' : rank (below (pad (N := 32832) s)) (k.castLE (by decide)) < 64 ↔ Selected s k := e.trans ⟨fun h => h.2, fun h => ⟨Int.natCast_nonneg _, h⟩⟩
    by_cases hS : Selected s k
    · rw [if_pos hS, if_pos (e'.2 hS), EReal.coe_one]
      exact Ideal.ofBits_one_f32
    · rw [if_neg hS, if_neg (fun h => hS (e'.1 h)), EReal.coe_zero]
      exact Ideal.ofBits_zero_f32

theorem choose_apply {s : Shape} (d z o kh : FVec Ideal s .f32) (i : s.Idx) : select (cmpf .ogt d z) (addf (subf o kh) kh) z i =
    Scalar.select (BitVec.ofBool (decide ((z i : EReal) < d i))) ((o i : EReal) - kh i + kh i) (z i) := rfl

theorem plain_values_apply (i : (⟨1, ![32768]⟩ : Shape).Idx) : Cert.RoundedIdeal.Hand.values (F := Ideal) kh i = Scalar.select
    (BitVec.ofBool (decide (Ideal.ofBits .f32 0x00000000#32 < Cert.RoundedIdeal.Hand.marks (F := Ideal) (Cert.RoundedIdeal.Hand.picks kh) i)))
    (Ideal.ofBits .f32 0x3F800000#32 - kh i + kh i) (Ideal.ofBits .f32 0x00000000#32) := by
  unfold Cert.RoundedIdeal.Hand.values
  exact choose_apply _ _ _ _ i

/-- The plain form's selected values. -/
theorem plain_values (hs : ∀ k, 0 ≤ s k) (hk : ∀ k, kh (ix1 k) = (s k : EReal)) (k : Fin 32768) :
    Cert.RoundedIdeal.Hand.values (F := Ideal) kh (ix1 k) = ((if Selected s k then 1 else 0 : ℝ) : EReal) := by
  rw [plain_values_apply, plain_marks hs hk, hk, Ideal.ofBits_zero_f32, Ideal.ofBits_one_f32, ← EReal.coe_one, ← EReal.coe_sub, ← EReal.coe_add, sub_add_cancel]
  by_cases hS : Selected s k
  · rw [if_pos hS, decide_eq_true (by rw [← EReal.coe_zero, EReal.coe_lt_coe_iff]; exact one_pos)]
    rfl
  · rw [if_neg hS, EReal.coe_zero, decide_eq_false (lt_irrefl _)]
    rfl

/-- The reference's marks. -/
theorem reference_marks (hk : ∀ k, kh (ix1 k) = (s k : EReal)) (k : Fin 32768) :
    Cert.ReferenceIdeal.Hand.marks (F := Ideal) (Cert.ReferenceIdeal.Hand.picks kh) (ix1 k) = ((if Selected s k then 1 else 0 : ℝ) : EReal) := by
  generalize hkey : (fun k : Fin 32768 => below (pad (N := 32832) s) (k.castLE (by decide))) = key
  have hgt : ∀ a b : Fin 32768, FloatOps.cmpfTotal (F := Ideal) (φ := .f32) .gt (kh (ix1 a)) (kh (ix1 b)) = BitVec.ofBool (decide (key b < key a)) := fun a b => by
    rw [hk, hk, cmp_coe, ← hkey]
    simp only [below_lt, pad_low]
  have h : Cert.ReferenceIdeal.Hand.marks (F := Ideal) (Cert.ReferenceIdeal.Hand.picks kh) (ix1 k) =
      if rank key (k.castLE (le_refl _)) < 64 then Ideal.ofBits .f32 0x3F800000#32 else Ideal.ofBits .f32 0x00000000#32 := by
    refine mark_top key (by decide) (le_refl _) _ rfl rfl rfl _ (fun i => ?_) _ _ k
    have hb : (sortedFrom (fun a b => decide (key b < key a)) ⟨i.val, i.isLt.trans_le (by decide)⟩).val < 2 ^ 31 :=
      lt_trans (Fin.isLt _) (by decide)
    have ht := topK_index (m := 64) (FloatOps.cmpfTotal (F := Ideal) (φ := .f32) .gt) kh key hgt Cert.ReferenceIdeal.Gen.sliceFits_S32768_S64 i (i.isLt.trans_le (by decide))
    have hp : Cert.ReferenceIdeal.Hand.picks (F := Ideal) kh (ix1 i) = _ := ht
    rw [← wrap_toInt _ hb (Cert.ReferenceIdeal.Hand.picks (F := Ideal) kh (ix1 i) + 32768#32), ← hp]
    pointwise
    rfl
  have e : Selected s k = (rank key k < 64) := by rw [← hkey]; rfl
  rw [h]
  show (if rank key k < 64 then _ else _) = _
  by_cases hS : Selected s k
  · rw [if_pos hS, if_pos (e ▸ hS), EReal.coe_one]
    exact Ideal.ofBits_one_f32
  · rw [if_neg hS, if_neg (e ▸ hS), EReal.coe_zero]
    exact Ideal.ofBits_zero_f32

theorem restore_apply {s : Shape} (d kh : FVec Ideal s .f32) (i : s.Idx) : addf (subf d kh) kh i = (d i : EReal) - kh i + kh i := rfl

theorem reference_values_apply (i : (⟨1, ![32768]⟩ : Shape).Idx) : Cert.ReferenceIdeal.Hand.values (F := Ideal) kh i =
    Cert.ReferenceIdeal.Hand.marks (F := Ideal) (Cert.ReferenceIdeal.Hand.picks kh) i - kh i + kh i := by
  unfold Cert.ReferenceIdeal.Hand.values
  exact restore_apply _ _ i

/-- The reference's selected values. -/
theorem reference_values (hk : ∀ k, kh (ix1 k) = (s k : EReal)) (k : Fin 32768) :
    Cert.ReferenceIdeal.Hand.values (F := Ideal) kh (ix1 k) = ((if Selected s k then 1 else 0 : ℝ) : EReal) := by
  rw [reference_values_apply, reference_marks hk, hk, ← EReal.coe_sub, ← EReal.coe_add, sub_add_cancel]

end Cert.IdealSelect

end
-- ==== Proof.Algebraic.lean ====
module

public import proofs.«01_k».proof.Defs
public import proofs.«01_k».proof.Proof.Gen.RoundedIdeal
public import proofs.«01_k».proof.Proof.Gen.ReferenceIdeal
public import proofs.«01_k».proof.Proof.IdealSelect

/-!
# The plain form computes the reference over the extended reals

A finite greatest logit says that every logit is the logarithm of a nonnegative real weight and that some weight is
positive. Both programs then have the soft counts of those weights, select the same positions, and mix by ones and
zeros.
-/

@[expose] public section

set_option maxRecDepth 8192

noncomputable section

namespace Cert.Algebraic

open Idealize.ShloMosaic Idealize.SL.Sem Finset Cert.Relax

/-- The shape relations the precondition's operations take. -/
theorem preFacts : Cert.Pre_greatest_finite.Facts where
  reducesTo_S32768_S_d0 := Cert.ReferenceIdeal.Gen.reducesTo_S32768_S_d0
  h_S_ := Cert.ReferenceIdeal.Gen.h_S_

theorem top_bits : Ideal.ofBits .f32 0x7F800000#32 = (⊤ : EReal) := by simp [Ideal.ofBits, Ideal.ieee]

theorem and_ofBool (a b : Bool) : BitVec.ofBool a &&& BitVec.ofBool b = 1#1 ↔ a = true ∧ b = true := by
  revert a b
  decide

theorem range_apply {s : Shape} (x a b : FVec Ideal s .f32) (i : s.Idx) : andi (cmpf .ogt x a) (cmpf .olt x b) i =
    BitVec.ofBool (decide ((a i : EReal) < x i)) &&& BitVec.ofBool (decide ((x i : EReal) < b i)) := rfl

/-- The precondition, read: the greatest logit is a real number. -/
theorem pre_iff (x : FVec Ideal ⟨2, ![64, 32768]⟩ .f32) (l p : FVec Ideal ⟨1, ![32768]⟩ .f32)
    (h : @Cert.Pre_greatest_finite.fn preFacts Ideal _ x l p = fun _ => 1#1) :
    (⊥ : EReal) < (univ : Finset (Fin 32768)).fold max (⊥ : EReal) (fun i => l (ix1 i))
      ∧ (univ : Finset (Fin 32768)).fold max (⊥ : EReal) (fun i => l (ix1 i)) < ⊤ := by
  have h' := congrFun h Cert.ReferenceIdeal.Hand.only
  unfold Cert.Pre_greatest_finite.fn at h'
  have h'' := (range_apply _ _ _ Cert.ReferenceIdeal.Hand.only).symm.trans h'
  rw [and_ofBool, decide_eq_true_iff, decide_eq_true_iff] at h''
  have e := Cert.ReferenceIdeal.Hand.reduce_max l Cert.ReferenceIdeal.Hand.only
  have h1 : Ideal.ofBits .f32 0xFF800000#32 < Host.reduce FloatOps.maximumf l (constant Cert.ReferenceIdeal.S_ .f32 0xFF800000#32)
    Cert.ReferenceIdeal.Gen.reducesTo_S32768_S_d0 Cert.ReferenceIdeal.Gen.h_S_ Cert.ReferenceIdeal.Hand.only := h''.1
  have h2 : Host.reduce FloatOps.maximumf l (constant Cert.ReferenceIdeal.S_ .f32 0xFF800000#32)
    Cert.ReferenceIdeal.Gen.reducesTo_S32768_S_d0 Cert.ReferenceIdeal.Gen.h_S_ Cert.ReferenceIdeal.Hand.only < Ideal.ofBits .f32 0x7F800000#32 := h''.2
  rw [e, Cert.ReferenceIdeal.Hand.bot_bits] at h1
  rw [e, top_bits] at h2
  exact ⟨h1, h2⟩

/-- Logits of finite greatest entry are logarithms of weights. -/
theorem weights (l : Fin 32768 → EReal) (h1 : (⊥ : EReal) < (univ : Finset (Fin 32768)).fold max (⊥ : EReal) l)
    (h2 : (univ : Finset (Fin 32768)).fold max (⊥ : EReal) l < ⊤) : ∃ w : Fin 32768 → ℝ, Good w ∧ ∀ i, l i = Ideal.log (w i : EReal) := by
  rw [fold_max_lt] at h2
  rw [lt_fold_max] at h1
  choose w hn hp hl using fun i => log_of (h2.2 i (mem_univ i))
  refine ⟨w, ?_, hl⟩
  obtain h | ⟨i, _, hi⟩ := h1
  · exact absurd h (lt_irrefl _)
  · exact good_of hn (hp i hi.ne')

/-- The two rows of selected values are the same. -/
theorem row_eq (l : FVec Ideal ⟨1, ![32768]⟩ .f32) (w : Fin 32768 → ℝ) (hw : Good w) (hl : ∀ i, l (ix1 i) = Ideal.log (w i : EReal)) (k : Fin 32768) :
    Cert.ReferenceIdeal.Hand.values (F := Ideal) (Cert.ReferenceIdeal.Hand.steps l 64).2.1 (ix1 k)
      = Cert.RoundedIdeal.Hand.values (F := Ideal) (Cert.RoundedIdeal.Hand.counts l) (ix1 k) := by
  rw [Cert.IdealSelect.reference_values (Cert.ReferenceIdeal.Hand.steps_log hw l hl 64).2 k]
  exact (Cert.IdealSelect.plain_values (soft_nonneg hw 64) (Cert.RoundedIdeal.Hand.counts_log hw l hl) k).symm

theorem mix_apply {s : Shape} (x pv row : FVec Ideal s .f32) (i : s.Idx) :
    addf x (mulf (subf pv x) row) i = FloatOps.addf (x i) (FloatOps.mulf (FloatOps.subf (pv i) (x i)) (row i)) := rfl

theorem rows_apply (v : FVec Ideal Cert.ReferenceIdeal.S32768 .f32) (i : Cert.ReferenceIdeal.S64x32768.Idx) :
    Cert.ReferenceIdeal.Hand.rows v i = v (ix1 (i 1)) := by
  unfold Cert.ReferenceIdeal.Hand.rows
  pointwise

theorem mix_rows (x : FVec Ideal ⟨2, ![64, 32768]⟩ .f32) (pv row : FVec Ideal ⟨1, ![32768]⟩ .f32) :
    addf x (mulf (subf (Cert.ReferenceIdeal.Hand.rows pv) x) (Cert.ReferenceIdeal.Hand.rows row))
      = Cert.RoundedIdeal.Hand.mix (F := Ideal) x (fun k => pv (ix1 k)) (fun k => row (ix1 k)) := by
  funext i
  rw [mix_apply, rows_apply, rows_apply]
  rfl

/-- The two mixtures are the same. -/
theorem mix_eq (x : FVec Ideal ⟨2, ![64, 32768]⟩ .f32) (pv l : FVec Ideal ⟨1, ![32768]⟩ .f32) (w : Fin 32768 → ℝ) (hw : Good w)
    (hl : ∀ i, l (ix1 i) = Ideal.log (w i : EReal)) :
    addf x (mulf (subf (Cert.ReferenceIdeal.Hand.rows pv) x)
      (Cert.ReferenceIdeal.Hand.rows (Cert.ReferenceIdeal.Hand.values (F := Ideal) (Cert.ReferenceIdeal.Hand.steps l 64).2.1)))
      = Cert.RoundedIdeal.Hand.mix (F := Ideal) x (fun k => pv (ix1 k))
        (fun k => Cert.RoundedIdeal.Hand.values (F := Ideal) (Cert.RoundedIdeal.Hand.counts l) (ix1 k)) := by
  rw [mix_rows]
  exact congrArg _ (funext (row_eq l w hw hl))

theorem algebraic : Cert.algebraic_RoundedIdeal_ReferenceIdeal_pre_greatest_finite (hPre_greatest_finite := preFacts) := by
  intro m g m' g' hpre hagree
  refine ⟨fun c => Cert.RoundedIdeal.Hand.mix (F := Ideal) (m ((c.tc : Thread Cert.RoundedIdeal.nD Cert.RoundedIdeal.τ).loc Cert.RoundedIdeal.main_arg0))
      (fun k => m ((c.tc : Thread Cert.RoundedIdeal.nD Cert.RoundedIdeal.τ).loc Cert.RoundedIdeal.main_arg2) (ix1 k))
      (fun k => Cert.RoundedIdeal.Hand.values (F := Ideal) (Cert.RoundedIdeal.Hand.counts
        (m ((c.tc : Thread Cert.RoundedIdeal.nD Cert.RoundedIdeal.τ).loc Cert.RoundedIdeal.main_arg1))) (ix1 k)),
    ?_, ?_⟩
  · exact (θ_run Cert.RoundedIdeal.defs _ _).mono (fun _ h c => ⟨h.1 c, h.2.1 c⟩)
      (θ_run_and (Cert.RoundedIdeal.Hand.run_result m g) (Cert.RoundedIdeal.Gen.frame m g))
  · refine (θ_run Cert.ReferenceIdeal.defs _ _).mono (fun _ h c => ⟨?_, (h c).2⟩)
      (Cert.ReferenceIdeal.Value.run m' g')
    obtain ⟨h0, h1, h2⟩ := hagree c
    obtain ⟨w, hw, hl⟩ := weights _ (pre_iff _ _ _ (hpre c)).1 (pre_iff _ _ _ (hpre c)).2
    refine (h c).1.trans ((Cert.ReferenceIdeal.Hand.result m' c).trans ?_)
    rw [h0, h1, h2]
    exact mix_eq _ _ _ w hw hl

end Cert.Algebraic

end
-- ==== Proof.lean ====
module

public import proofs.«01_k».proof.Defs
public import proofs.«01_k».proof.Proof.Gen.Kernel
public import proofs.«01_k».proof.Proof.Gen.Rounded
public import proofs.«01_k».proof.Proof.Gen.RoundedIdeal
public import proofs.«01_k».proof.Proof.Gen.ReferenceIdeal
public import proofs.«01_k».proof.Proof.Gen.ReferenceIdeal.Run
public import proofs.«01_k».proof.Proof.KernelFrame
public import proofs.«01_k».proof.Proof.ReferenceFrame
public import proofs.«01_k».proof.Proof.Bitexact
public import proofs.«01_k».proof.Proof.Algebraic

@[expose] public section

noncomputable section

namespace Cert.Proof

open Idealize.ShloMosaic Idealize.SL.Sem

/-- The kernel's frame: its run leaves the arguments unchanged and every counter at zero. -/
theorem frame_kernel : Cert.quiescent_Kernel := fun m g _ =>
  (θ_run Cert.Kernel.defs _ _).mono (fun _ h => h.1) (Cert.Kernel.Hand.run_all m g)

theorem claim : Cert.Claim :=
  ⟨Cert.Kernel.Gen.facts, Cert.Rounded.Gen.facts, Cert.RoundedIdeal.Gen.facts, Cert.ReferenceIdeal.Gen.facts, Cert.Algebraic.preFacts,
    frame_kernel,
    fun m g _ => Cert.Rounded.Gen.frame m g,
    fun m g _ => Cert.RoundedIdeal.Gen.frame m g,
    fun m g _ => Cert.RoundedIdeal.Gen.frame m g,
    fun m g _ => Cert.ReferenceIdeal.Hand.frame m g,
    fun m g _ => Cert.ReferenceIdeal.Hand.frame m g,
    Cert.Bitexact.bitexact,
    trivial,
    Cert.Algebraic.algebraic⟩

end Cert.Proof

end
